-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S8x1x512 : Shape := ⟨3, ![8, 1, 512]⟩
abbrev S8 : Shape := ⟨1, ![8]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1x512, .bf16⟩
  | .local _ .vmem, ⟨0, _⟩ => ⟨S1024x512, .bf16⟩
  | .local _ .vmem, ⟨1, _⟩ => ⟨S1x512, .bf16⟩
  | .local _ .vmem, ⟨2, _⟩ => ⟨S1x512, .bf16⟩
  | .local _ .vmem, ⟨3, _⟩ => ⟨S8x1x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v38 : BitVec 32 := Scalar.addi v2 c1_i32_32
  let c8_i32_33 : BitVec 32 := 8#32
  let v39 : BitVec 32 := Scalar.remsi v38 c8_i32_33
  let c1_i32_35 : BitVec 32 := 1#32
  let v40 : BitVec 32 := Scalar.muli v39 c1_i32_35
  let v41 : BitVec 32 := Scalar.addi c0_i32_36 v40
  v41.toNat
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v48 : BitVec 32 := Scalar.addi v2 c2_i32_39
  let c8_i32_40 : BitVec 32 := 8#32
  let v49 : BitVec 32 := Scalar.remsi v48 c8_i32_40
  let c1_i32_42 : BitVec 32 := 1#32
  let v50 : BitVec 32 := Scalar.muli v49 c1_i32_42
  let v51 : BitVec 32 := Scalar.addi c0_i32_43 v50
  v51.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v58 : BitVec 32 := Scalar.addi v2 c3_i32_46
  let c8_i32_47 : BitVec 32 := 8#32
  let v59 : BitVec 32 := Scalar.remsi v58 c8_i32_47
  let c1_i32_49 : BitVec 32 := 1#32
  let v60 : BitVec 32 := Scalar.muli v59 c1_i32_49
  let v61 : BitVec 32 := Scalar.addi c0_i32_50 v60
  v61.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_53 : BitVec 32 := 4#32
  let v68 : BitVec 32 := Scalar.addi v2 c4_i32_53
  let c8_i32_54 : BitVec 32 := 8#32
  let v69 : BitVec 32 := Scalar.remsi v68 c8_i32_54
  let c1_i32_56 : BitVec 32 := 1#32
  let v70 : BitVec 32 := Scalar.muli v69 c1_i32_56
  let v71 : BitVec 32 := Scalar.addi c0_i32_57 v70
  v71.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_60 : BitVec 32 := 5#32
  let v78 : BitVec 32 := Scalar.addi v2 c5_i32_60
  let c8_i32_61 : BitVec 32 := 8#32
  let v79 : BitVec 32 := Scalar.remsi v78 c8_i32_61
  let c1_i32_63 : BitVec 32 := 1#32
  let v80 : BitVec 32 := Scalar.muli v79 c1_i32_63
  let v81 : BitVec 32 := Scalar.addi c0_i32_64 v80
  v81.toNat
def k0_dev13 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_67 : BitVec 32 := 6#32
  let v88 : BitVec 32 := Scalar.addi v2 c6_i32_67
  let c8_i32_68 : BitVec 32 := 8#32
  let v89 : BitVec 32 := Scalar.remsi v88 c8_i32_68
  let c1_i32_70 : BitVec 32 := 1#32
  let v90 : BitVec 32 := Scalar.muli v89 c1_i32_70
  let v91 : BitVec 32 := Scalar.addi c0_i32_71 v90
  v91.toNat
def k0_dev14 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_74 : BitVec 32 := 7#32
  let v98 : BitVec 32 := Scalar.addi v2 c7_i32_74
  let c8_i32_75 : BitVec 32 := 8#32
  let v99 : BitVec 32 := Scalar.remsi v98 c8_i32_75
  let c1_i32_77 : BitVec 32 := 1#32
  let v100 : BitVec 32 := Scalar.muli v99 c1_i32_77
  let v101 : BitVec 32 := Scalar.addi c0_i32_78 v100
  v101.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : Index := Scalar.indexCast v2
  let c0_83 : Index := 0#32
  let c0_84 : Index := 0#32
  ![v109.toNat, 0, 0]
def k0_off4 (d0 : Dev nD) (c1_i32_85 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi v2 c1_i32_85
  let c8_i32_86 : BitVec 32 := 8#32
  let v114 : BitVec 32 := Scalar.remsi v113 c8_i32_86
  ![v114.toNat]
def k0_off5 (d0 : Dev nD) (c1_i32_85 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi v2 c1_i32_85
  let c8_i32_86 : BitVec 32 := 8#32
  let v114 : BitVec 32 := Scalar.remsi v113 c8_i32_86
  let c0_i32_90 : BitVec 32 := 0#32
  let c0_i32_91 : BitVec 32 := 0#32
  ![v114.toNat, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S_, .bf16⟩
  | .hbm, ⟨2, _⟩ => ⟨S512, .bf16⟩
  | .hbm, ⟨3, _⟩ => ⟨S1x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Peers.lean ====
/-
Eight devices and the seven others of each, counted by how far they lie ahead: what every phase of the kernel
runs over, independently of what a phase does.
-/
module

public import Idealize.ShloMosaic.Lib.Rounds
public import Idealize.ShloMosaic.Lib.Pipeline.Launch
public import Idealize.ShloMosaic.Lib.Tactic
public import Idealize.SL.BI.BigOpNat

@[expose] public section

noncomputable section

namespace Cert.Peers

open Idealize.SL Idealize.SL.RA Idealize.SL.BI
open scoped Idealize.SL.BI
open Idealize.SL.BI.BIBase Idealize.SL.BI.Laws Idealize.SL.ProofMode

/-- The device `d` places ahead of `c`. -/
def peer (c : Fin 8) (d : ℕ) : Fin 8 := ⟨(c.val + d) % 8, Nat.mod_lt _ (by decide)⟩

/-- The distances to the seven others. -/
abbrev dists : Finset ℕ := Finset.Ico 1 8

/-- A device at distance 1 to 7 is another device. -/
theorem peer_ne (c : Fin 8) {d : ℕ} (h : d ∈ dists) : peer c d ≠ c := by
  rw [Finset.mem_Ico] at h
  intro h'
  have := congrArg Fin.val h'
  simp only [peer] at this
  omega

/-- Two different distances lead to two different devices. -/
theorem peer_injOn (c : Fin 8) : Set.InjOn (peer c) (dists : Set ℕ) := by
  intro a ha b hb h
  rw [Finset.coe_Ico, Set.mem_Ico] at ha hb
  have := congrArg Fin.val h
  simp only [peer] at this
  omega

/-- The others of `c` are the devices one to seven places ahead of it. -/
theorem image_peer : ∀ c : Fin 8, dists.image (peer c) = Finset.univ.erase c := by decide

/-- Over the devices: how many of the others lie at `c`. Each device but `c` has `c` among its others once. -/
theorem count_peers : ∀ c : Fin 8, (∑ a : Fin 8, ∑ d ∈ dists, if peer a d = c then 1 else 0) = 7 := by decide

/-- Of those, the ones that start from `j`: one, unless `j` is `c`. -/
theorem count_peers_from : ∀ c j : Fin 8,
    (∑ a : Fin 8, ∑ d ∈ dists, if peer a d = c ∧ a = j then 1 else 0) = if j = c then 0 else 1 := by decide

section BigSep

variable {M : Type} [URA M]

/-- An assertion for each of the others of `c`, by distance. -/
theorem bigSep_others (c : Fin 8) (Φ : Fin 8 → sProp M) :
    bigSep (Finset.univ.erase c) Φ = bigSep dists fun d => Φ (peer c d) := by
  rw [← image_peer c]
  have h : dists.image (peer c) = dists.attach.map ⟨fun d => peer c d.1, fun a b h => Subtype.ext (peer_injOn c a.2 b.2 h)⟩ := by
    ext x; simp
  rw [h, bigSep_map]
  exact (bigSep_map (s := dists.attach) ⟨Subtype.val, Subtype.val_injective⟩ (Φ := fun d => Φ (peer c d))).symm.trans
    (by rw [show dists.attach.map ⟨Subtype.val, Subtype.val_injective⟩ = dists from Finset.attach_map_val])

/-- An assertion for every device: `c`'s own and the others', by distance. -/
theorem bigSep_devices (c : Fin 8) (Φ : Fin 8 → sProp M) :
    bigSep Finset.univ Φ = iprop(Φ c ∗ bigSep dists fun d => Φ (peer c d)) := by
  rw [bigSep_univ_split c, bigSep_others]; rfl

/-- The assertions by distance from `k` on: the one at `k` and the ones after it. -/
theorem take_first {k : ℕ} (h : k < 8) (A : ℕ → sProp M) :
    bigSep (Finset.Ico k 8) A = iprop(A k ∗ bigSep (Finset.Ico (k + 1) 8) A) := bigSep_Ico_succ_bot h A

/-- The assertions by distance before `k`, and the one at `k`. -/
theorem put_last {k : ℕ} (h : 1 ≤ k) (A : ℕ → sProp M) :
    bigSep (Finset.Ico 1 (k + 1)) A = iprop(A k ∗ bigSep (Finset.Ico 1 k) A) := bigSep_Ico_succ_top h A

/-- Nothing lies before the first. -/
theorem none_done (A : ℕ → sProp M) : bigSep (Finset.Ico 1 1) A = iprop(emp) := by rw [Finset.Ico_self, bigSep_empty]; rfl
/-- Nothing lies after the last. -/
theorem none_left (A : ℕ → sProp M) : bigSep (Finset.Ico 8 8) A = iprop(emp) := by rw [Finset.Ico_self, bigSep_empty]; rfl

/-- Pairs held for every index are two families. -/
theorem pair_split {I : Type} (S : Finset I) (A B : I → sProp M) : bigSep S (fun i => iprop(A i ∗ B i)) = iprop(bigSep S A ∗ bigSep S B) :=
  bigSep_sep S A B

/-- A persistent fact serves every summand. -/
theorem with_fact {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ := by
  induction S using Finset.induction_on with
  | empty => rw [bigSep_empty, bigSep_empty]; iintro ⟨-, H⟩; iexact H
  | insert i S hi ih =>
    rw [bigSep_insert hi, bigSep_insert hi]
    show iprop(R ∗ Φ i ∗ bigSep S Φ) ⊢ iprop(Ψ i ∗ bigSep S Ψ)
    iintro ⟨#HR, Hi, HS⟩
    isplitl [Hi]
    · iapply (h i (Finset.mem_insert_self i S)); isplitr; · iexact HR
      iexact Hi
    · iapply (ih fun j hj => h j (Finset.mem_insert_of_mem hj)); isplitr; · iexact HR
      iexact HS

end BigSep

end Cert.Peers

end
-- ==== Proof.KernelIdealProtocol.lean ====
/-
What the devices agree on: which cell of which device is paid by whom, how many units, and what a payment hands over.

Every device takes the maximum of its own rows into a row buffer, tells the seven others that its gather buffer is
ready (one unit on each one's barrier cell), waits until all seven have told it so, and then copies its row into its
own row of each of the others' gather buffers. A unit on the barrier cell of `c` from `p` hands `c` row `c` of `p`'s
gather buffer; the landing of `j`'s copy hands the owner row `j` of its gather buffer, holding `j`'s maximum; the end of
a copy hands the sender back the share of its row buffer that the copy reads.
-/
module

public import proofs.«01_k».proof.Proof.Peers
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, and the rounds' with a payer's device as the name of what it pays -/

/-- The rounds' part of the resources. -/
abbrev UB : Type := URounds (GSem nD τ sig) (Dev nD)
/-- Both parts. -/
abbrev UU : Type := UR sig nD τ × UB

local notation "𝕄" => MT nD τ sig Unit (Elt F) ℕ UU ℕ

/-- Where the pipeline's part lies in the whole, and -/
abbrev EP : Emb (UR sig nD τ) (MT nD τ sig Unit (Elt F) ℕ UU ℕ) := embL
/-- where the rounds' part lies. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Buffers and cells -/

/-- The argument's staged block, -/
abbrev xM : Memref sig .tc .vmem S1024x512 .bf16 := Memref.whole cc0_stg0_0
/-- the result's, -/
abbrev oM : Memref sig .tc .vmem S1x512 .bf16 := Memref.whole cc0_stg1_0
/-- the device's own row of maxima, -/
abbrev aM : Memref sig .tc .vmem S1x512 .bf16 := Memref.whole cc0_scratch0
/-- and the buffer that gathers the eight rows. -/
abbrev gM : Memref sig .tc .vmem S8x1x512 .bf16 := Memref.whole cc0_scratch1

/-- Each of the eight rows lies within the gather buffer. -/
theorem row_inb : ∀ j : Fin 8, ∀ a, (![j.val, 0, 0] : Fin 3 → Nat) a + S1x1x512.size a ≤ S8x1x512.size a := by decide

/-- The positions of row `j` of the gather buffer, -/
abbrev rowR (j : Fin 8) : Rect S8x1x512 := Rect.unit (s := S8x1x512) ![j.val, 0, 0] S1x1x512.size (row_inb j)
/-- and that row as a buffer of one row. -/
abbrev rowM (j : Fin 8) : Memref sig .tc .vmem S1x512 .bf16 :=
  (gM.slice (rowR j) (fun _ => rfl) : Memref sig .tc .vmem S1x1x512 .bf16).squeeze S1x512 squeezes_S1x1x512_S1x512

/-- The barrier semaphore. -/
abbrev barS : Sem sig := (SemArray.scalar (sig.barrier 0 rfl) : Sems sig S_).sem
/-- The sixteen semaphores of the copies: eight of the senders (`b = 0`), eight of the receivers (`b = 1`). -/
abbrev dmaS (b : Fin 2) (j : Fin 8) : DmaSem sig := (⟨2 + (j.val + 8 * b.val), by omega⟩ : Fin 18)
/-- A distance as an index of the senders' semaphores. -/
abbrev at8 (d : ℕ) : Fin 8 := peer 0 d

/-- A device's cells: the barrier's, and the sixteen of the copies. -/
abbrev CI : Type := Unit ⊕ (Fin 2 × Fin 8)
/-- The semaphore of a cell, -/
abbrev csem : CI → SemLoc sig
  | .inl _ => .reg barS
  | .inr bj => .dma (dmaS bj.1 bj.2)
/-- and the cell of a device by its kind. -/
abbrev kcell (ck : Dev nD × CI) : GSem nD τ sig := ((ck.1 : Thread nD τ), csem ck.2)

/-- The cell on which device `c` counts the others' arrivals. -/
abbrev barCell (c : Dev nD) : GSem nD τ sig := ((c : Thread nD τ), .reg barS)
/-- The cell of the copy from `c` to the device `d` places ahead. -/
abbrev sndCell (c : Dev nD) (d : ℕ) : GSem nD τ sig := ((c : Thread nD τ), .dma (dmaS 0 (at8 d)))
/-- The cell on which device `c` learns that row `j` has come. -/
abbrev rcvCell (c : Dev nD) (j : Fin 8) : GSem nD τ sig := ((c : Thread nD τ), .dma (dmaS 1 j))

/-- What a copy of one row counts. -/
abbrev N : ℕ := (aM : Memref sig .tc .vmem S1x512 .bf16).view.dmaCredit
/-- A copy of one row counts something. -/
theorem N_pos : 0 < N := View.dmaCredit_pos _ (by decide)

/-- What a semaphore is for. -/
inductive Role | bar | snd (d : ℕ) | rcv (j : Fin 8) | other

/-- The role of each semaphore, by its number. -/
def role : SemLoc sig → Role
  | .reg _ => .bar
  | .dma (q : Fin 18) => if q.val < 2 then .other else if q.val < 10 then .snd (q.val - 2) else .rcv ⟨(q.val - 10) % 8, Nat.mod_lt _ (by decide)⟩

/-- The barrier semaphore has the barrier's role. -/
theorem role_bar : role (.reg barS) = .bar := rfl
/-- The numbers from 2 to 9 belong to the sends, -/
theorem role_mid (q : Fin 18) (h : ¬ q.val < 2) (h' : q.val < 10) : role (.dma q) = .snd (q.val - 2) := by
  unfold role; dsimp only; rw [if_neg h, if_pos h']
/-- and those from 10 on to the landings. -/
theorem role_high (q : Fin 18) (h : ¬ q.val < 2) (h' : ¬ q.val < 10) : role (.dma q) = .rcv ⟨(q.val - 10) % 8, Nat.mod_lt _ (by decide)⟩ := by
  unfold role; dsimp only; rw [if_neg h, if_neg h']
/-- The sender's semaphore of distance `d` has that role. -/
theorem role_snd {d : ℕ} (h : d < 8) : role (.dma (dmaS 0 (at8 d))) = .snd d := by
  have e : (0 + d) % 8 = d := by omega
  exact (role_mid _ (show ¬ 2 + ((0 + d) % 8 + 8 * 0) < 2 by omega) (show 2 + ((0 + d) % 8 + 8 * 0) < 10 by omega)).trans
    (congrArg Role.snd (show 2 + ((0 + d) % 8 + 8 * 0) - 2 = d by omega))
/-- The receiver's semaphore of row `j` has that role. -/
theorem role_rcv (j : Fin 8) : role (.dma (dmaS 1 j)) = .rcv j := by
  have hj : j.val < 8 := j.isLt
  exact (role_high _ (show ¬ 2 + (j.val + 8 * 1) < 2 by omega) (show ¬ 2 + (j.val + 8 * 1) < 10 by omega)).trans
    (congrArg Role.rcv (Fin.ext (show (2 + (j.val + 8 * 1) - 10) % 8 = j.val by omega)))

/-! ## Contents -/

/-- The block of rows device `c` starts from. -/
def xAt (c : Dev nD) : (cc0_stg0_0 : Ref sig .tc).ty.Contents (Elt F) :=
  (win0_0.blk (0 : Fin 1)).view.read (Elt F) ((s₀ m ρ).mem ((c : Thread nD τ).loc main_arg0))

/-- The maximum of its rows. -/
def accAt (c : Dev nD) : (cc0_scratch0 : Ref sig .tc).ty.Contents (Elt F) := k0_pay1 (xAt m ρ c)

/-- A position of the gather buffer, as one of a row buffer. -/
def inRow (i : S8x1x512.Idx) : S1x512.Idx := fun a => i a.succ

/-- The gather buffer once all rows are in: row `j` is device `j`'s maximum, on every device. -/
def gathered : (cc0_scratch1 : Ref sig .tc).ty.Contents (Elt F) := fun i => accAt m ρ (i (0 : Fin 3)) (inRow i)

/-- Row `j` as a buffer covers the positions of row `j`, -/
theorem row_set (j : Fin 8) : (rowM j).view.set = (rowR j).set :=
  (View.set_reshape (v := (gM.slice (rowR j) (fun _ => rfl) : Memref sig .tc .vmem S1x1x512 .bf16).view) squeezes_S1x1x512_S1x512.numel_eq).trans (View.set_slice_whole cc0_scratch1 (rowR j))

/-- which are those whose first coordinate is `j`. -/
theorem mem_row {j : Fin 8} {i : S8x1x512.Idx} : i ∈ (rowM j).view.set ↔ i (0 : Fin 3) = j := by
  rw [row_set]
  refine (Rect.mem_set_unit).trans ?_
  have h1 : (i 1 : ℕ) < 1 := (i 1).isLt
  have h2 : (i 2 : ℕ) < 512 := (i 2).isLt
  constructor
  · intro h
    have h0 : j.val ≤ (i 0 : ℕ) ∧ (i 0 : ℕ) < j.val + 1 := h 0
    exact Fin.ext (by omega)
  · intro h a
    have h0 : (i 0 : ℕ) = j.val := congrArg Fin.val h
    fin_cases a
    · show j.val ≤ (i 0 : ℕ) ∧ (i 0 : ℕ) < j.val + 1
      omega
    · show 0 ≤ (i 1 : ℕ) ∧ (i 1 : ℕ) < 0 + 1
      omega
    · show 0 ≤ (i 2 : ℕ) ∧ (i 2 : ℕ) < 0 + 512
      omega

/-- The rows are the whole buffer, -/
theorem rows_cover : (Finset.univ : Finset (Fin 8)).biUnion (fun j => (rowM j).view.set) = (Finset.univ : Finset S8x1x512.Idx) := by
  ext i
  simp only [Finset.mem_biUnion, Finset.mem_univ, true_and, iff_true]
  exact ⟨i (0 : Fin 3), mem_row.mpr rfl⟩

/-- and no two share a position. -/
theorem rows_disjoint {j j' : Fin 8} (h : j ≠ j') : Disjoint (rowM j).view.set (rowM j').view.set :=
  Finset.disjoint_left.mpr fun i hi hi' => h ((mem_row.mp hi).symm.trans (mem_row.mp hi'))

omit [FloatOps F] in
/-- A row written with `w` holds `w`, by position. -/
theorem row_write (j : Fin 8) (f : (cc0_scratch1 : Ref sig .tc).ty.Contents (Elt F)) (w : S1x512.Idx → Elt F .bf16) {i : S8x1x512.Idx} (hi : i ∈ (rowM j).view.set) :
    (rowM j).view.write (Elt F) f w Finset.univ i = w (inRow i) := by
  obtain ⟨x, -, rfl⟩ := Finset.mem_map.mp hi
  refine (View.write_emb_of_mem (Val := Elt F) (v := (rowM j).view) f w (Finset.mem_univ x)).trans ?_
  show w x = _
  refine congrArg w (funext fun a => Fin.ext ?_)
  show (x a : ℕ) = (((rowR j).idx (Shape.reshapeEquiv squeezes_S1x1x512_S1x512.numel_eq x)) a.succ : ℕ)
  rw [show Shape.reshapeEquiv squeezes_S1x1x512_S1x512.numel_eq x = Fin.cons ⟨0, Nat.one_pos⟩ x from Shape.reshapeEquiv_cons_one _ x]
  fin_cases a
  · show (x 0 : ℕ) = 0 + 1 * (x 0 : ℕ)
    omega
  · show (x 1 : ℕ) = 0 + 1 * (x 1 : ℕ)
    omega

/-- Row `j` written with device `j`'s maximum is row `j` of the gathered rows. -/
theorem row_write_acc (j : Fin 8) (f : (cc0_scratch1 : Ref sig .tc).ty.Contents (Elt F)) {i : S8x1x512.Idx} (hi : i ∈ (rowM j).view.set) :
    (rowM j).view.write (Elt F) f (accAt m ρ j) Finset.univ i = gathered m ρ i := by
  rw [row_write j f _ hi]
  unfold gathered
  rw [mem_row.mp hi]

/-! ## Ownership of a row, of the row buffer and of shares of it -/

/-- Row `j` of `c`'s gather buffer, at contents `f`. -/
def rowPts (c : Dev nD) (j : Fin 8) (f : (cc0_scratch1 : Ref sig .tc).ty.Contents (Elt F)) : sProp 𝕄 :=
  (rowM j).view.loc (c : Thread nD τ) ↦[(rowM j).view.set]{fullShare} f

/-- A share of `c`'s row buffer, holding its maximum. -/
def accPts (c : Dev nD) (q : PosShare TreeShare) : sProp 𝕄 :=
  (aM : Memref sig .tc .vmem S1x512 .bf16).view.loc (c : Thread nD τ) ↦[(aM : Memref sig .tc .vmem S1x512 .bf16).view.set]{q} accAt m ρ c

omit [FloatOps F] in
/-- A row's ownership may be handed over by a cell, -/
instance rowPts_storable (c : Dev nD) (j : Fin 8) (f) : BI.Storable (upEmb : UEmb _ 𝕄) (rowPts (F := F) c j f) := by unfold rowPts; infer_instance
/-- and so may a share of the row buffer. -/
instance accPts_storable (c : Dev nD) (q) : BI.Storable (upEmb : UEmb _ 𝕄) (accPts (F := F) m ρ c q) := by unfold accPts; infer_instance

omit [FloatOps F] in
/-- The row buffer covers all its positions. -/
theorem acc_set : (aM : Memref sig .tc .vmem S1x512 .bf16).view.set = Finset.univ := View.set_whole _
/-- The whole share of it is ownership of the buffer at the device's maximum. -/
theorem accPts_eq (c : Dev nD) : accPts m ρ c fullShare = (((c : Thread nD τ).loc cc0_scratch0) ↦{fullShare} accAt m ρ c : sProp 𝕄) := by
  unfold accPts; rw [acc_set]

omit [FloatOps F] in
/-- The gather buffer whole is its eight rows. -/
theorem rows_split (c : Dev nD) (f : (cc0_scratch1 : Ref sig .tc).ty.Contents (Elt F)) :
    (((c : Thread nD τ).loc cc0_scratch1) ↦{fullShare} f : sProp 𝕄) = bigSep Finset.univ fun j : Fin 8 => rowPts c j f := by
  unfold rowPts
  refine Eq.trans ?_ (pointsTo_biUnion (ℓ := (c : Thread nD τ).loc cc0_scratch1) (q := fullShare) (f := f) Finset.univ (fun j : Fin 8 => (rowM j).view.set) fun _ _ _ _ h => rows_disjoint h)
  rw [rows_cover]

/-- What is left of the row buffer's ownership before the copy at distance `k`; the copy takes its left half. -/
def rest : ℕ → PosShare TreeShare
  | 0 => fullShare
  | 1 => fullShare
  | k + 2 => (rest (k + 1)).right
/-- The share that the copy at distance `k` reads from. -/
def piece (k : ℕ) : PosShare TreeShare := (rest k).left

/-- What is left before a copy is the copy's share and what is left after it. -/
theorem acc_next (c : Dev nD) : ∀ {k : ℕ}, 1 ≤ k → accPts m ρ c (rest k) = iprop(accPts m ρ c (piece k) ∗ accPts m ρ c (rest (k + 1)))
  | k + 1, _ => BI.equiv_iff.mp ⟨(pointsTo_share (PosShare.mem_left_op_right _)).1, (pointsTo_share (PosShare.mem_left_op_right _)).2⟩

/-- The row buffer is the shares of the first `n` copies and what is left. -/
theorem acc_split (c : Dev nD) : ∀ n : ℕ,
    accPts m ρ c fullShare = iprop((bigSep (Finset.Ico 1 (n + 1)) fun d => accPts m ρ c (piece d)) ∗ accPts m ρ c (rest (n + 1)))
  | 0 => by
    rw [none_done]
    exact (BI.equiv_iff.mp BI.emp_sep).symm
  | n + 1 => by
    rw [acc_split c n, put_last (k := n + 1) (by omega), acc_next m ρ c (k := n + 1) (by omega)]
    apply BI.equiv_iff.mp
    constructor
    · show (_ : sProp 𝕄) ⊢ _
      iintro ⟨H1, H2, H3⟩
      isplitl [H1 H2]
      · isplitl [H2] <;> iassumption
      · iexact H3
    · show (_ : sProp 𝕄) ⊢ _
      iintro ⟨⟨H1, H2⟩, H3⟩
      isplitl [H2]; · iexact H2
      isplitl [H1] <;> iassumption

/-! ## The schedule -/

/-- What a unit from `p` hands `c`: row `c` of `p`'s gather buffer. -/
def barPay (c p : Dev nD) : sProp 𝕄 := iprop(∃ f, rowPts p c f)

/-- One round on every cell: on a barrier cell one unit from each of the others, on a copy's two cells the row's count. -/
def sched : Rounds.Schedule (GSem nD τ sig) (Dev nD) 𝕄 where
  duties g r := if r = 0 ∧ g.1.2 = .tc then
      match role g.2 with
      | .bar => Finset.univ.erase g.1.1
      | .snd d => if d = 0 then ∅ else {0}
      | .rcv j => if j = g.1.1 then ∅ else {0}
      | .other => ∅
    else ∅
  unitless _ := False
  amount g _ _ := match role g.2 with
    | .bar => 1
    | _ => N
  payload g _ p := match role g.2 with
    | .bar => barPay g.1.1 p
    | .snd d => accPts m ρ g.1.1 (piece d)
    | .rcv j => rowPts g.1.1 j (gathered m ρ)
    | .other => iprop(emp)
  amount_pos g _ _ _ := by
    cases role g.2
    · exact Nat.one_pos
    all_goals exact N_pos

/-- What the schedule hands over may be stored. -/
instance sched_storable (g : GSem nD τ sig) (r : ℕ) (p : Dev nD) : BI.Storable (upEmb : UEmb _ 𝕄) ((sched (F := F) m ρ).payload g r p) := by
  show BI.Storable upEmb (match role g.2 with
    | .bar => barPay g.1.1 p
    | .snd d => accPts m ρ g.1.1 (piece d)
    | .rcv j => rowPts g.1.1 j (gathered m ρ)
    | .other => iprop(emp))
  unfold barPay
  cases role g.2 <;> infer_instance

section Facts
variable (c : Dev nD)

/-- The barrier's payers are the seven other devices. -/
theorem duties_bar : (sched (F := F) m ρ).duties (barCell c) 0 = Finset.univ.erase c := by
  dsimp only [sched]; rw [role_bar]; exact if_pos ⟨rfl, rfl⟩
/-- The sender's cell of a distance from 1 to 7 is paid once. -/
theorem duties_snd {d : ℕ} (h : d ∈ dists) : (sched (F := F) m ρ).duties (sndCell c d) 0 = {0} := by
  rw [Finset.mem_Ico] at h
  dsimp only [sched]; rw [if_pos ⟨rfl, rfl⟩, role_snd h.2]; exact if_neg (by omega)
/-- The receiver's cell of another device's row is paid once. -/
theorem duties_rcv {j : Fin 8} (h : j ≠ c) : (sched (F := F) m ρ).duties (rcvCell c j) 0 = {0} := by
  dsimp only [sched]; rw [if_pos ⟨rfl, rfl⟩, role_rcv]; exact if_neg h
/-- Nobody pays the sender's cell of distance zero, nor the receiver's cell of the device's own row. -/
theorem duties_snd_zero (r : ℕ) : (sched (F := F) m ρ).duties (sndCell c 0) r = ∅ := by
  dsimp only [sched]
  split
  · rw [role_snd (by omega)]; exact if_pos rfl
  · rfl
/-- The receiver's cell of the device's own row is never paid. -/
theorem duties_rcv_own (r : ℕ) : (sched (F := F) m ρ).duties (rcvCell c c) r = ∅ := by
  dsimp only [sched]
  split
  · rw [role_rcv]; exact if_pos rfl
  · rfl
/-- After the first round nothing is paid anywhere. -/
theorem duties_later (g : GSem nD τ sig) : ∀ r, 1 ≤ r → (sched (F := F) m ρ).duties g r = ∅ :=
  fun r hr => by dsimp only [sched]; exact if_neg fun h => by omega

/-- A signal counts one unit, -/
theorem amount_bar (p : Dev nD) : (sched (F := F) m ρ).amount (barCell c) 0 p = 1 := by dsimp only [sched]; rw [role_bar]
/-- the end of a copy one row, -/
theorem amount_snd {d : ℕ} (h : d < 8) (p : Dev nD) : (sched (F := F) m ρ).amount (sndCell c d) 0 p = N := by dsimp only [sched]; rw [role_snd h]
/-- and a landing one row. -/
theorem amount_rcv (j : Fin 8) (p : Dev nD) : (sched (F := F) m ρ).amount (rcvCell c j) 0 p = N := by dsimp only [sched]; rw [role_rcv]

/-- The barrier's round is over at seven units, -/
theorem expect_bar : (sched (F := F) m ρ).expect (barCell c) 0 = 7 := by
  unfold Schedule.expect Schedule.amountOf
  rw [duties_bar, Finset.sum_congr rfl fun p _ => amount_bar m ρ c p, Finset.sum_const, smul_eq_mul, Finset.card_erase_of_mem (Finset.mem_univ _)]
  rfl
/-- that of a send at one row, -/
theorem expect_snd {d : ℕ} (h : d ∈ dists) : (sched (F := F) m ρ).expect (sndCell c d) 0 = N := by
  unfold Schedule.expect Schedule.amountOf
  rw [duties_snd m ρ c h, Finset.sum_singleton, amount_snd m ρ c (Finset.mem_Ico.mp h).2]
/-- and that of a landing at one row. -/
theorem expect_rcv {j : Fin 8} (h : j ≠ c) : (sched (F := F) m ρ).expect (rcvCell c j) 0 = N := by
  unfold Schedule.expect Schedule.amountOf
  rw [duties_rcv m ρ c h, Finset.sum_singleton, amount_rcv]

/-- A signal hands over a row to write into, -/
theorem payload_bar (p : Dev nD) : (sched (F := F) m ρ).payload (barCell c) 0 p = barPay c p := by dsimp only [sched]; rw [role_bar]
/-- the end of a copy the share that it read from, -/
theorem payload_snd {d : ℕ} (h : d < 8) (p : Dev nD) : (sched (F := F) m ρ).payload (sndCell c d) 0 p = accPts m ρ c (piece d) := by
  dsimp only [sched]; rw [role_snd h]
/-- and a landing its row, filled. -/
theorem payload_rcv (j : Fin 8) (p : Dev nD) : (sched (F := F) m ρ).payload (rcvCell c j) 0 p = rowPts c j (gathered m ρ) := by
  dsimp only [sched]; rw [role_rcv]

/-- All that the barrier's round hands over, by distance. -/
theorem paid_bar : bigSep ((sched (F := F) m ρ).duties (barCell c) 0 \ ∅) (fun p => (sched (F := F) m ρ).payload (barCell c) 0 p)
    = bigSep dists fun d => barPay c (peer c d) := by
  rw [Finset.sdiff_empty, duties_bar, bigSep_others]
  exact bigSep_congr fun d _ => payload_bar m ρ c _
/-- All that a send's round hands over, -/
theorem paid_snd {d : ℕ} (h : d ∈ dists) :
    bigSep ((sched (F := F) m ρ).duties (sndCell c d) 0 \ ∅) (fun p => (sched (F := F) m ρ).payload (sndCell c d) 0 p) = accPts m ρ c (piece d) := by
  rw [Finset.sdiff_empty, duties_snd m ρ c h, bigSep_singleton, payload_snd m ρ c (Finset.mem_Ico.mp h).2]
/-- and all that a landing's round does. -/
theorem paid_rcv {j : Fin 8} (h : j ≠ c) :
    bigSep ((sched (F := F) m ρ).duties (rcvCell c j) 0 \ ∅) (fun p => (sched (F := F) m ρ).payload (rcvCell c j) 0 p) = rowPts c j (gathered m ρ) := by
  rw [Finset.sdiff_empty, duties_rcv m ρ c h, bigSep_singleton, payload_rcv]

end Facts

/-! ## What a device owes, and in which order waits may be made -/

/-- The units for the barrier cells of the devices from distance `k` on, -/
def owedBar (c : Dev nD) (k : ℕ) : CellTallies nD τ sig Unit := ∑ d ∈ Finset.Ico k 8, tallyAt (barCell (peer c d)) () 1
/-- and the landings of the copies to them. -/
def owedRcv (c : Dev nD) (k : ℕ) : CellTallies nD τ sig Unit := ∑ d ∈ Finset.Ico k 8, tallyAt (rcvCell (peer c d) c) () N
/-- What device `c` owes at the start. -/
def owed₀ (c : Dev nD) : CellTallies nD τ sig Unit := owedBar c 1 + owedRcv c 1

/-- The distances from `k` on are `k` and those after it. -/
theorem Ico_first {k : ℕ} (h : k < 8) : Finset.Ico k 8 = insert k (Finset.Ico (k + 1) 8) := by
  ext d; simp only [Finset.mem_insert, Finset.mem_Ico]; omega
/-- Of the signals owed the first may be set apart, -/
theorem owedBar_first (c : Dev nD) {k : ℕ} (h : k < 8) : owedBar c k = owedBar c (k + 1) + tallyAt (barCell (peer c k)) () 1 := by
  unfold owedBar; rw [Ico_first h, Finset.sum_insert (fun hk => absurd (Finset.mem_Ico.mp hk).1 (Nat.not_succ_le_self k)), add_comm]
/-- and so may the first of the landings. -/
theorem owedRcv_first (c : Dev nD) {k : ℕ} (h : k < 8) : owedRcv c k = owedRcv c (k + 1) + tallyAt (rcvCell (peer c k) c) () N := by
  unfold owedRcv; rw [Ico_first h, Finset.sum_insert (fun hk => absurd (Finset.mem_Ico.mp hk).1 (Nat.not_succ_le_self k)), add_comm]
/-- After distance 7 no signal is owed, -/
theorem owedBar_done (c : Dev nD) : owedBar c 8 = 0 := by unfold owedBar; rw [Finset.Ico_self, Finset.sum_empty]
/-- and no landing. -/
theorem owedRcv_done (c : Dev nD) : owedRcv c 8 = 0 := by unfold owedRcv; rw [Finset.Ico_self, Finset.sum_empty]

/-- How many signals are owed on a cell, -/
theorem owedBar_at (c : Dev nD) (k : ℕ) (g : GSem nD τ sig) (u : Unit) :
    owedBar c k g u = ∑ d ∈ Finset.Ico k 8, if g = barCell (peer c d) then 1 else 0 := by
  unfold owedBar
  rw [Finset.sum_apply, Finsupp.finset_sum_apply]
  exact Finset.sum_congr rfl fun d _ => by rw [tallyAt_apply]; simp
/-- and how many counts of landings. -/
theorem owedRcv_at (c : Dev nD) (k : ℕ) (g : GSem nD τ sig) (u : Unit) :
    owedRcv c k g u = ∑ d ∈ Finset.Ico k 8, if g = rcvCell (peer c d) c then N else 0 := by
  unfold owedRcv
  rw [Finset.sum_apply, Finsupp.finset_sum_apply]
  exact Finset.sum_congr rfl fun d _ => by rw [tallyAt_apply]; simp

/-- The place of a role in the order of the waits. -/
def lev : Role → ℕ
  | .bar => 1
  | .rcv _ => 2
  | _ => 0
/-- Every cell of a kernel's core counts; barrier cells come before receive cells, all others before both. -/
def L (g : GSem nD τ sig) : Finset Unit := if g.1.2 = .tc then {()} else ∅
/-- The place of a cell in that order. -/
def lv (g : GSem nD τ sig) (_ : Unit) : ℕ := lev (role g.2)

/-- Cells of other cores than the kernel's do not count, -/
theorem L_of_ne (g : GSem nD τ sig) (h : g.1.2 ≠ .tc) : L g = ∅ := if_neg h
/-- those of the kernel's core do. -/
theorem mem_L {g : GSem nD τ sig} (h : g.1.2 = .tc) (u : Unit) : u ∈ L g := by unfold L; rw [if_pos h]; exact Finset.mem_singleton_self _

/-- Signals are owed on cells of place 1 only, -/
theorem owedBar_pos {c : Dev nD} {k : ℕ} {g : GSem nD τ sig} {u : Unit} (h : 0 < owedBar c k g u) : g.1.2 = .tc ∧ lv g u = 1 := by
  rw [owedBar_at] at h
  obtain ⟨d, -, hd⟩ := Finset.exists_ne_zero_of_sum_ne_zero h.ne'
  have : g = barCell (peer c d) := by by_contra hn; exact hd (if_neg hn)
  subst this
  exact ⟨rfl, rfl⟩
/-- and landings on cells of place 2 only. -/
theorem owedRcv_pos {c : Dev nD} {k : ℕ} {g : GSem nD τ sig} {u : Unit} (h : 0 < owedRcv c k g u) : g.1.2 = .tc ∧ lv g u = 2 := by
  rw [owedRcv_at] at h
  obtain ⟨d, -, hd⟩ := Finset.exists_ne_zero_of_sum_ne_zero h.ne'
  have : g = rcvCell (peer c d) c := by by_contra hn; exact hd (if_neg hn)
  subst this
  exact ⟨rfl, by unfold lv; dsimp only; rw [role_rcv]; rfl⟩

omit [FloatOps F] in
/-- A device may wait on a cell of its own that comes before every cell on which it owes. -/
theorem mayWait (c : Dev nD) (sm : SemLoc sig) (O : CellTallies nD τ sig Unit)
    (h : ∀ g u, 0 < O g u → g.1.2 = .tc ∧ lev (role sm) < lv g u) :
    (levAts L lv : sProp 𝕄) ⊢ MayWait (c : Thread nD τ) sm () O :=
  MayOwe.of_cut (L := L) (lev := lv) (lev (role sm))
    (fun p hp => by rw [Finset.mem_singleton.mp hp]; exact mem_L rfl _)
    (fun g u hg => mem_L (h g u hg).1 u)
    (fun p hp => by rw [Finset.mem_singleton.mp hp]; exact le_refl _)
    (fun g u hg => (h g u hg).2)

end Cert.KernelIdeal.Gather

end
-- ==== Proof.KernelIdealSteps.lean ====
/-
The steps of the kernel's body on one device: a signal, a copy, a wait for a landing and a wait for the end of a copy,
each stated for every distance; the closing of the cells; what each phase starts from and leaves; and what the
loads and stores read and write.
-/
module

public import proofs.«01_k».proof.Proof.KernelIdealProtocol
public import proofs.«01_k».proof.Proof.Gen.KernelIdeal.Points

@[expose] public section

noncomputable section

namespace Cert.KernelIdeal.Gather

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body has no loop whose trips need a measure. -/
abbrev 𝒱₀ : Variants := Variants.none

/-! ## What every device knows: the cells -/

section Steps

variable (K : Dev nD × CI → ℕ)

/-- Every cell of every device has its invariant, under the names `K`, and is in its first round. -/
def records : sProp 𝕄 :=
  bigSep Finset.univ fun ck : Dev nD × CI => iprop(cellInv ER (sched m ρ) (K ck) (kcell ck) ∗ reached ER (kcell ck) 0)

/-- This knowledge is not used up. -/
instance records_persistent : BI.Persistent (records m ρ K) := by unfold records; infer_instance

/-- Of a cell one knows its invariant and its first round; -/
theorem known (ck : Dev nD × CI) : records m ρ K ⊢ iprop(cellInv ER (sched m ρ) (K ck) (kcell ck) ∗ reached ER (kcell ck) 0) :=
  bigSep_elim (Finset.mem_univ ck)
/-- of a barrier's cell, -/
theorem known_bar (c : Dev nD) : records m ρ K ⊢ iprop(cellInv ER (sched m ρ) (K (c, .inl ())) (barCell c) ∗ reached ER (barCell c) 0) :=
  known m ρ K (c, .inl ())
/-- of a sender's, -/
theorem known_snd (c : Dev nD) (d : ℕ) : records m ρ K ⊢ iprop(cellInv ER (sched m ρ) (K (c, .inr (0, at8 d))) (sndCell c d) ∗ reached ER (sndCell c d) 0) :=
  known m ρ K (c, .inr (0, at8 d))
/-- and of a receiver's. -/
theorem known_rcv (c : Dev nD) (j : Fin 8) : records m ρ K ⊢ iprop(cellInv ER (sched m ρ) (K (c, .inr (1, j))) (rcvCell c j) ∗ reached ER (rcvCell c j) 0) :=
  known m ρ K (c, .inr (1, j))

variable (c : Dev nD)

/-! ## The signals -/

/-- Before the signal at distance `k`: the tokens of those to come and the rows they hand over. -/
def Signals (k : ℕ) : sProp 𝕄 :=
  iprop((∃ W, owes (c : Thread nD τ) (owedBar c k + owedRcv c 1) W)
    ∗ bigSep (Finset.Ico k 8) fun d => iprop(dutyTok ER (barCell (peer c d)) 0 c ∗ ∃ f, rowPts (F := F) c (peer c d) f))

/-- The signal at distance `k` takes the state before it to the state before the next. -/
theorem signal_step {α : Type} {Q : α → sProp 𝕄} {cont : PUnit → Prog (TpuEff nD τ sig (Elt F) Λ₀ .tc) α} {k : ℕ} (hk : k ∈ dists) {n : Dev nD} (hn : n = peer c k) {u : ℕ} (hu : u = 1) :
    iprop(records m ρ K ∗ Signals c k)
      ⊢ iprop((Signals c (k + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (n : Thread nD τ) barS u) cont) Q) := by
  subst hn hu
  have hlt : k < 8 := (Finset.mem_Ico.mp hk).2
  have hO : owedBar c k + owedRcv c 1 = owedBar c (k + 1) + owedRcv c 1 + tallyAt (barCell (peer c k)) () 1 := by
    rw [owedBar_first c hlt, add_right_comm]
  unfold Signals
  rw [take_first hlt]
  iintro ⟨#HR, ⟨%W, HO⟩, ⟨Htok, Hrow⟩, Hrest⟩ Hk
  ihave Hkn := (known_bar m ρ K (peer c k)) $$ HR
  icases Hkn with ⟨#HI, #Hr⟩
  iapply (Rounds.wp_signal 𝒱₀ ER (sched m ρ) (c : Thread nD τ) none (dst := (peer c k : Thread nD τ)) (κ := K (peer c k, .inl ()))
      (d := c) (by rw [duties_bar]; exact Finset.mem_erase.mpr ⟨(peer_ne c hk).symm, Finset.mem_univ _⟩) (amount_bar m ρ (peer c k) c) ()
      (owedBar c (k + 1) + owedRcv c 1) hO)
    $$ [HO Htok Hrow]
  · isplitr; · iexact HI
    isplitl [HO]; · iexact HO
    isplitl [Htok]; · iexact Htok
    isplitl [Hrow]; · rw [payload_bar]; unfold barPay; iexact Hrow
    iexact Hr
  iintro HO
  iapply Hk
  isplitl [HO]; · iexists W; iexact HO
  iexact Hrest

/-! ## The copies -/

/-- Before the copy at distance `k`: the tokens of those to come and the rows they write, what is left of the row
    buffer's ownership, and the right to wait for the ends of those started. -/
def Sends (k : ℕ) : sProp 𝕄 :=
  iprop((∃ W, owes (c : Thread nD τ) (owedRcv c k) W) ∗ accPts m ρ c (rest k)
    ∗ (bigSep (Finset.Ico k 8) fun d => iprop(dutyTok ER (sndCell c d) 0 0 ∗ dutyTok ER (rcvCell (peer c d) c) 0 0 ∗ ∃ f, rowPts (F := F) (peer c d) c f))
    ∗ bigSep (Finset.Ico 1 k) fun d => cred (tallyAt (sndCell c d) () N))

omit [FloatOps F] in
/-- Reading the row buffer whole gives its contents. -/
theorem read_acc (w : (cc0_scratch0 : Ref sig .tc).ty.Contents (Elt F)) : (aM : Memref sig .tc .vmem S1x512 .bf16).view.read (Elt F) w = w :=
  View.read_whole _ _

/-- The share a copy reads is what its send cell hands back, -/
theorem sent {k : ℕ} (h : k < 8) :
    iprop((aM : Memref sig .tc .vmem S1x512 .bf16).view.loc (c : Thread nD τ) ↦[(aM : Memref sig .tc .vmem S1x512 .bf16).view.set]{piece k} accAt m ρ c)
      ⊢ (sched (F := F) m ρ).payload (sndCell c k) 0 0 := by
  rw [payload_snd m ρ c h]
  exact BI.Entails.refl _

/-- and the row it writes is what the receive cell at its target hands over. -/
theorem landed (n : Dev nD) (f : (cc0_scratch1 : Ref sig .tc).ty.Contents (Elt F)) :
    iprop((rowM c).view.loc (n : Thread nD τ) ↦[(rowM c).view.set]{fullShare} ((rowM c).view.write (Elt F) f
        ((aM : Memref sig .tc .vmem S1x512 .bf16).view.read (Elt F) (accAt m ρ c)) Finset.univ))
      ⊢ (sched (F := F) m ρ).payload (rcvCell n c) 0 0 := by
  rw [payload_rcv, read_acc]
  unfold rowPts
  rw [pointsTo_congr fun i hi => row_write_acc m ρ c f hi]

/-- A copy to any row counts the same. -/
theorem row_amount (j : Fin 8) (s : DmaSem sig) : (rowM j).view.amount (.dma s) = N := rfl

/-- The copy at distance `k` takes the state before it to the state before the next. -/
theorem send_step {α : Type} {Q : α → sProp 𝕄} {cont : PUnit → Prog (TpuEff nD τ sig (Elt F) Λ₀ .tc) α} {k : ℕ} (hk : k ∈ dists) {n : Dev nD} (hn : n = peer c k) {sS sR : DmaSem sig} (hS : sS = dmaS 0 (at8 k)) (hR : sR = dmaS 1 c)
    {dst : Memref sig .tc .vmem S1x512 .bf16} (hd : dst = rowM c)
    {hsc : (dst : Memref sig (Dev.tc n : Thread nD τ).2.kind .vmem S1x512 .bf16).view.ref.isScScratch = false}
    {hsrc : (aM : Memref sig .tc .vmem S1x512 .bf16).view.WordExact} {hdst : dst.view.WordExact}
    {hsem : DmaTarget.Typed .vmem (.dma sR) (.remote (Dev.tc n : Thread nD τ) (dst : Memref sig (Dev.tc n : Thread nD τ).2.kind .vmem S1x512 .bf16) (.dma sS) hsc)} :
    iprop(records m ρ K ∗ Sends m ρ c k)
      ⊢ iprop((Sends m ρ c (k + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma aM (.remote (Dev.tc n : Thread nD τ) dst (.dma sS) hsc) (.dma sR) hsrc hdst hsem) cont) Q) := by
  subst hn hS hR hd
  have hlt : k < 8 := (Finset.mem_Ico.mp hk).2
  have hle : 1 ≤ k := (Finset.mem_Ico.mp hk).1
  unfold Sends
  rw [take_first hlt, put_last hle, acc_next m ρ c hle]
  iintro ⟨#HR, ⟨%W, HO⟩, ⟨Hp, Hq⟩, ⟨⟨HtS, HtR, ⟨%f, Hrow⟩⟩, Hrest⟩, Hcr⟩ Hk
  ihave Hks := (known_snd m ρ K c k) $$ HR
  icases Hks with ⟨#HIs, #Hrs⟩
  ihave Hkr := (known_rcv m ρ K (peer c k) c) $$ HR
  icases Hkr with ⟨#HIr, #Hrr⟩
  iapply (Rounds.wp_send_pointsTo 𝒱₀ ER (sched m ρ) (c : Thread nD τ) none (c' := (peer c k : Thread nD τ)) (src := aM)
      (dst := (rowM c : Memref sig (Dev.tc (peer c k) : Thread nD τ).2.kind .vmem S1x512 .bf16)) (κ₁ := K (c, .inr (0, at8 k))) (κ₂ := K (peer c k, .inr (1, c)))
      (r₁ := 0) (r₂ := 0) (d₁ := 0) (d₂ := 0) (q := piece k) (fs := accAt m ρ c) (fd := f)
      (by rw [duties_snd m ρ c hk]; exact Finset.mem_singleton_self _)
      (by rw [duties_rcv m ρ (peer c k) (peer_ne c hk).symm]; exact Finset.mem_singleton_self _)
      () () N (row_amount c _) (amount_snd m ρ c hlt 0) (amount_rcv m ρ (peer c k) c 0) (owedRcv c (k + 1)) (owedRcv_first c hlt) (W := W)
      (sent m ρ c hlt) (landed m ρ c (peer c k) f))
    $$ [HO Hp HtS HtR Hrow]
  · isplitr; · iexact HIs
    isplitr; · iexact HIr
    isplitl [Hp]; · unfold accPts; iexact Hp
    isplitl [Hrow]; · unfold rowPts; iexact Hrow
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  isplitl [Hq]; · iexact Hq
  isplitl [Hrest]; · iexact Hrest
  isplitl [Hc] <;> iassumption

/-! ## The waits: for the landings, and for the ends of the copies -/

/-- Before the wait at distance `k`, on the cells `cell` that hand over `P`: the credits and positions of the waits to
    come, and what those made have handed over. -/
def Pending (cell : ℕ → SemLoc sig) (P : ℕ → sProp 𝕄) (k : ℕ) : sProp 𝕄 :=
  iprop((∃ W, owes (c : Thread nD τ) 0 W)
    ∗ (bigSep (Finset.Ico k 8) fun d => iprop(cred (tallyAt ((c : Thread nD τ), cell d) () N) ∗ atPos ER ((c : Thread nD τ), cell d) 0 ∅ 0))
    ∗ bigSep (Finset.Ico 1 k) fun d => iprop(P d ∗ atPos ER ((c : Thread nD τ), cell d) 1 ∅ 0))

/-- A wait at distance `k`, for a landing or for the end of a copy, takes the state before it to the state before the next. -/
theorem wait_step {α : Type} {Q : α → sProp 𝕄} {cont : PUnit → Prog (TpuEff nD τ sig (Elt F) Λ₀ .tc) α} {cell : ℕ → SemLoc sig} {P : ℕ → sProp 𝕄} {k : ℕ} (hk : k ∈ dists) (κ : ℕ)
    (hI : records m ρ K ⊢ iprop(cellInv ER (sched m ρ) κ ((c : Thread nD τ), cell k) ∗ reached ER ((c : Thread nD τ), cell k) 0))
    (hexp : (sched (F := F) m ρ).expect ((c : Thread nD τ), cell k) 0 = N)
    (hpaid : bigSep ((sched (F := F) m ρ).duties ((c : Thread nD τ), cell k) 0 \ ∅) (fun p => (sched (F := F) m ρ).payload ((c : Thread nD τ), cell k) 0 p) = P k)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (cell k) N R) :
    iprop(records m ρ K ∗ Pending c cell P k)
      ⊢ iprop((Pending c cell P (k + 1) -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  have hlt : k < 8 := (Finset.mem_Ico.mp hk).2
  have hle : 1 ≤ k := (Finset.mem_Ico.mp hk).1
  unfold Pending
  rw [take_first hlt, put_last hle]
  iintro ⟨#HR, ⟨%W, HO⟩, ⟨⟨Hcr, Hat⟩, Hrest⟩, Hdone⟩ Hk
  ihave Hkn := hI $$ HR
  icases Hkn with ⟨#HI, -⟩
  iapply (Rounds.wp_wait_rest_token 𝒱₀ ER (sched m ρ) (c : Thread nD τ) none (κ := κ) hw (Set.mem_univ _) () (O := 0) (W := W) (R := 0) (m := 0) (T := ∅)
      (by rw [Nat.zero_add, hexp])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave HP := (Entails.of_eq hpaid) $$ Hpay
  iapply Hk
  isplitl [HO]; · iexists _; iexact HO
  isplitl [Hrest]; · iexact Hrest
  isplitl [HP Hat]
  · isplitl [HP] <;> iassumption
  iexact Hdone

/-- The cells of the landings, in the order in which they are waited for, and what they hand over; -/
abbrev rcvAt (d : ℕ) : SemLoc sig := .dma (dmaS 1 (peer c d))
/-- Before the wait for the landing at distance `k`. -/
def Landed (k : ℕ) : sProp 𝕄 := Pending c (rcvAt c) (fun d => rowPts c (peer c d) (gathered m ρ)) k
/-- those of the ends of the copies, and what they hand back. -/
abbrev sndAt (d : ℕ) : SemLoc sig := .dma (dmaS 0 (at8 d))
/-- Before the wait for the end of the copy at distance `k`. -/
def Ended (k : ℕ) : sProp 𝕄 := Pending c sndAt (fun d => accPts m ρ c (piece d)) k

/-- The wait for the landing from distance `k`. -/
theorem landed_step {α : Type} {Q : α → sProp 𝕄} {cont : PUnit → Prog (TpuEff nD τ sig (Elt F) Λ₀ .tc) α} {k : ℕ} (hk : k ∈ dists) {s : DmaSem sig} (hs : s = dmaS 1 (peer c k)) {src dst : Memref sig .tc .vmem S1x512 .bf16}
    {hsrc : src.view.WordExact} {hdst : dst.view.WordExact} (hd : dst = rowM (peer c k)) :
    iprop(records m ρ K ∗ Landed m ρ c k)
      ⊢ iprop((Landed m ρ c (k + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s src dst hsrc hdst) cont) Q) := by
  subst hs hd
  have hN : (rowM (peer c k)).view.dmaCredit = N := rfl
  unfold Landed
  exact wait_step m ρ K c (cell := rcvAt c) (P := fun d => rowPts c (peer c d) (gathered m ρ)) hk (K (c, .inr (1, peer c k))) (known_rcv m ρ K c (peer c k)) (expect_rcv m ρ c (peer_ne c hk)) (paid_rcv m ρ c (peer_ne c hk))
    (fun R => by rw [← hN]; exact wpE_waitDma2_eq 𝒱₀ (c : Thread nD τ) none Set.univ R)

/-- The wait for the end of the copy to distance `k`. -/
theorem ended_step {α : Type} {Q : α → sProp 𝕄} {cont : PUnit → Prog (TpuEff nD τ sig (Elt F) Λ₀ .tc) α} {k : ℕ} (hk : k ∈ dists) {s : DmaSem sig} (hs : s = dmaS 0 (at8 k)) {src : Memref sig .tc .vmem S1x512 .bf16}
    {hsrc : src.view.WordExact} {hdst : (aM : Memref sig .tc .vmem S1x512 .bf16).view.WordExact} :
    iprop(records m ρ K ∗ Ended m ρ c k)
      ⊢ iprop((Ended m ρ c (k + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s src aM hsrc hdst) cont) Q) := by
  subst hs
  have hN : (aM : Memref sig .tc .vmem S1x512 .bf16).view.dmaCredit = N := rfl
  unfold Ended
  exact wait_step m ρ K c (cell := sndAt) (P := fun d => accPts m ρ c (piece d)) hk (K (c, .inr (0, at8 k))) (known_snd m ρ K c k) (expect_snd m ρ c hk) (paid_snd m ρ c hk)
    (fun R => by rw [← hN]; exact wpE_waitDma2_eq 𝒱₀ (c : Thread nD τ) none Set.univ R)

/-! ## Closing the cells -/

/-- A cell with no payment to come is closed, its counter at zero. -/
theorem close_one (ck : Dev nD × CI) {R : ℕ} (hR : ∀ r, R ≤ r → (sched (F := F) m ρ).duties (kcell ck) r = ∅) :
    iprop(records m ρ K ∗ atPos ER (kcell ck) R ∅ 0) ⊢ iprop(|={Set.univ}=> semVal (kcell ck) 0) := by
  iintro ⟨#HR, Hat⟩
  ihave Hkn := (known m ρ K ck) $$ HR
  icases Hkn with ⟨#HI, -⟩
  iapply (Rounds.cell_close ER (sched m ρ) (Set.mem_univ (K ck)) (fun h => h) hR)
  isplitr; · iexact HI
  iexact Hat

/-- Of eight cells the one nobody pays, and the seven paid, once their round is over. -/
theorem close_eight (b : Fin 2) (j : Fin 8) (h0 : ∀ r, (sched (F := F) m ρ).duties ((c : Thread nD τ), .dma (dmaS b j)) r = ∅) :
    iprop(records m ρ K ∗ atPos ER ((c : Thread nD τ), .dma (dmaS b j)) 0 ∅ 0 ∗ bigSep dists fun d => atPos ER ((c : Thread nD τ), .dma (dmaS b (peer j d))) 1 ∅ 0)
      ⊢ iprop(|={Set.univ}=> bigSep Finset.univ fun i : Fin 8 => semVal ((c : Thread nD τ), .dma (dmaS b i)) 0) := by
  rw [bigSep_devices j]
  iintro ⟨#HR, H0, HS⟩
  imod (close_one m ρ K (c, .inr (b, j)) (R := 0) (fun r _ => h0 r)) $$ [H0] with Hz
  · isplitr; · iexact HR
    iexact H0
  imod ((with_fact (R := records m ρ K) fun d _ => close_one m ρ K (c, .inr (b, peer j d)) (R := 1) (duties_later m ρ _)).trans (bigSep_fupd _ _)) $$ [HS] with Hzs
  · isplitr; · iexact HR
    iexact HS
  imodintro
  isplitl [Hz]; · iexact Hz
  iexact Hzs

/-! ## Entering and leaving the phases -/

/-- The state before the first signal, from the tokens and the seven rows of the others; -/
theorem signals_start (f : (cc0_scratch1 : Ref sig .tc).ty.Contents (Elt F)) :
    iprop((∃ W, owes (c : Thread nD τ) (owed₀ c) W) ∗ (bigSep dists fun d => dutyTok ER (barCell (peer c d)) 0 c)
        ∗ bigSep dists fun d => rowPts c (peer c d) f) ⊢ Signals (F := F) c 1 := by
  have h : (bigSep dists fun d => rowPts c (peer c d) f : sProp 𝕄) ⊢ bigSep dists fun d => iprop(∃ f, rowPts (F := F) c (peer c d) f) :=
    bigSep_mono fun d _ => show (rowPts c (peer c d) f : sProp 𝕄) ⊢ iprop(∃ f, rowPts c (peer c d) f) by iintro H; iexists f; iexact H
  unfold Signals
  rw [pair_split]
  iintro ⟨HO, Ht, Hr⟩
  isplitl [HO]; · iexact HO
  isplitl [Ht]; · iexact Ht
  iapply h
  iexact Hr

/-- after the last, the landings are all that is owed. -/
theorem signals_end : Signals (F := F) c 8 ⊢ iprop(∃ W, owes (c : Thread nD τ) (owedRcv c 1) W) := by
  unfold Signals
  rw [owedBar_done, zero_add]
  iintro ⟨H, -⟩
  iexact H

/-- The state before the first copy, from the tokens, the row buffer and what the barrier handed over; -/
theorem sends_start :
    iprop((∃ W, owes (c : Thread nD τ) (owedRcv c 1) W) ∗ accPts m ρ c fullShare ∗ (bigSep dists fun d => dutyTok ER (sndCell c d) 0 0)
        ∗ (bigSep dists fun d => dutyTok ER (rcvCell (peer c d) c) 0 0) ∗ bigSep dists fun d => barPay c (peer c d)) ⊢ Sends m ρ c 1 := by
  unfold Sends
  rw [pair_split, pair_split, none_done]
  iintro ⟨HO, Ha, Hs, Hr, Hb⟩
  isplitl [HO]; · iexact HO
  isplitl [Ha]; · iexact Ha
  isplitl [Hs Hr Hb]
  · isplitl [Hs]; · iexact Hs
    isplitl [Hr]; · iexact Hr
    iexact Hb
  iempintro

/-- after the last, nothing is owed, and what is left of the row buffer and the credits for the ends remain. -/
theorem sends_end : Sends m ρ c 8 ⊢ iprop((∃ W, owes (c : Thread nD τ) 0 W) ∗ accPts m ρ c (rest 8) ∗ bigSep dists fun d => cred (tallyAt (sndCell c d) () N)) := by
  unfold Sends
  rw [owedRcv_done]
  iintro ⟨HO, Ha, -, Hc⟩
  isplitl [HO]; · iexact HO
  isplitl [Ha] <;> iassumption

/-- The state before the first wait, from the credits and the positions; -/
theorem pending_start (cell : ℕ → SemLoc sig) (P : ℕ → sProp 𝕄) :
    iprop((∃ W, owes (c : Thread nD τ) 0 W) ∗ (bigSep dists fun d => cred (tallyAt ((c : Thread nD τ), cell d) () N))
        ∗ bigSep dists fun d => atPos ER ((c : Thread nD τ), cell d) 0 ∅ 0) ⊢ Pending c cell P 1 := by
  unfold Pending
  rw [pair_split, none_done]
  iintro ⟨HO, Hc, Ha⟩
  isplitl [HO]; · iexact HO
  isplitl [Hc Ha]
  · isplitl [Hc] <;> iassumption
  iempintro

/-- after the last, all that the cells handed over. -/
theorem pending_end (cell : ℕ → SemLoc sig) (P : ℕ → sProp 𝕄) :
    Pending c cell P 8 ⊢ iprop((∃ W, owes (c : Thread nD τ) 0 W) ∗ bigSep dists P ∗ bigSep dists fun d => atPos ER ((c : Thread nD τ), cell d) 1 ∅ 0) := by
  unfold Pending
  rw [pair_split (Finset.Ico 1 8)]
  iintro ⟨HO, -, Hp⟩
  isplitl [HO]; · iexact HO
  iexact Hp

/-! ## The loads and stores -/

omit [FloatOps F] in
/-- Two offsets of zero are zero everywhere, -/
theorem zero₂ : (![0, 0] : Fin 2 → ℕ) = fun _ => 0 := funext fun a => by fin_cases a <;> rfl
omit [FloatOps F] in
/-- and so are three. -/
theorem zero₃ : (![0, 0, 0] : Fin 3 → ℕ) = fun _ => 0 := funext fun a => by fin_cases a <;> rfl

/-- The whole of a buffer of one row, as a rectangle. -/
abbrev r2 : Rect S1x512 := Rect.unit (s := S1x512) ![0, 0] S1x512.size inb_S1x512_S1x512_0_0
omit [FloatOps F] in
/-- A load of the whole argument block reads it, -/
theorem read_x (f : (cc0_stg0_0 : Ref sig .tc).ty.Contents (Elt F)) :
    (xM : Memref sig .tc .vmem S1024x512 .bf16).view.readAt (Elt F) (Rect.unit (s := S1024x512) ![0, 0] S1024x512.size inb_S1024x512_S1024x512_0_0).toLoadRect f = f :=
  Memref.readAt_unit_zero (Elt F) cc0_stg0_0 zero₂ _ f
omit [FloatOps F] in
/-- and a load of the whole gather buffer reads that. -/
theorem read_g (f : (cc0_scratch1 : Ref sig .tc).ty.Contents (Elt F)) :
    (gM : Memref sig .tc .vmem S8x1x512 .bf16).view.readAt (Elt F) (Rect.unit (s := S8x1x512) ![0, 0, 0] S8x1x512.size inb_S8x1x512_S8x1x512_0_0_0).toLoadRect f = f :=
  Memref.readAt_unit_zero (Elt F) cc0_scratch1 zero₃ _ f
omit [FloatOps F] in
/-- A store of the whole row buffer leaves what is stored, -/
theorem write_acc (f w : (cc0_scratch0 : Ref sig .tc).ty.Contents (Elt F)) :
    ((aM : Memref sig .tc .vmem S1x512 .bf16).access r2 : View sig .tc _ _ _).write (Elt F) f w Finset.univ = w :=
  Memref.write_access_unit_zero_univ (Elt F) cc0_scratch0 zero₂ _ f w
omit [FloatOps F] in
/-- and so does a store of the whole result. -/
theorem write_out (f w : (cc0_stg1_0 : Ref sig .tc).ty.Contents (Elt F)) :
    ((oM : Memref sig .tc .vmem S1x512 .bf16).access r2 : View sig .tc _ _ _).write (Elt F) f w Finset.univ = w :=
  Memref.write_access_unit_zero_univ (Elt F) cc0_stg1_0 zero₂ _ f w

/-- At the wait for the seven signals a device owes landings only, which lie above. -/
theorem mayWait_bar : (levAts L lv : sProp 𝕄) ⊢ MayWait (c : Thread nD τ) (.reg barS) () (owedRcv c 1) :=
  mayWait c (.reg barS) (owedRcv c 1) fun g u h => ⟨(owedRcv_pos h).1, by rw [(owedRcv_pos h).2, role_bar]; decide⟩

/-- A load of the row buffer, at any share of it, reads the device's maximum. -/
theorem acc_load {α : Type} {Q : α → sProp 𝕄} {cont : (S1x512.Idx → Elt F .bf16) → Prog (TpuEff nD τ sig (Elt F) Λ₀ .tc) α} {q : PosShare TreeShare}
    {hb} {hl : (aM : Memref sig .tc .vmem S1x512 .bf16).view.LoadsAt (Rect.unit (s := S1x512) ![0, 0] S1x512.size hb).toLoadRect} :
    accPts m ρ c q
      ⊢ iprop((accPts m ρ c q -∗ wp frame (wpE (defs₀ (F := F)) 𝒱₀ (c : Thread nD τ) none) Set.univ (cont (accAt m ρ c)) Q)
          -∗ wp frame (wpE (defs₀ (F := F)) 𝒱₀ (c : Thread nD τ) none) Set.univ (.op (.load aM (Rect.unit (s := S1x512) ![0, 0] S1x512.size hb).toLoadRect hl) cont) Q) := by
  have e : (aM : Memref sig .tc .vmem S1x512 .bf16).view.readAt (Elt F) (Rect.unit (s := S1x512) ![0, 0] S1x512.size hb).toLoadRect (accAt m ρ c) = accAt m ρ c :=
    Memref.readAt_unit_zero (Elt F) cc0_scratch0 zero₂ _ _
  unfold accPts
  rw [acc_set]
  have := wp_load (defs := defs₀ (F := F)) (Γ := .empty) 𝒱₀ (c : Thread nD τ) none Set.univ (m := aM) (hl := hl) (q := q) (f := accAt m ρ c) (k := cont) (Q := Q) (Finset.subset_univ _)
  rw [e] at this
  exact this

omit [FloatOps F] in
/-- Storing a row through the three-axis buffer is writing it to that row. -/
theorem own_write (j : Fin 8) (f : (cc0_scratch1 : Ref sig .tc).ty.Contents (Elt F)) (v : Vec F S1x512 .bf16) :
    ((gM : Memref sig .tc .vmem S8x1x512 .bf16).access (rowR j)).write (Elt F) f (shapeCast S1x1x512 v shapeCasts_S1x512_S1x1x512) Finset.univ
      = (rowM j).view.write (Elt F) f v Finset.univ := by
  refine Eq.trans ?_ (View.write_reshape_univ (Val := Elt F) (v := (gM : Memref sig .tc .vmem S8x1x512 .bf16).access (rowR j)) squeezes_S1x1x512_S1x512.numel_eq f v).symm
  rfl

/-- The store of the device's maximum to its own row. -/
theorem own_store {α : Type} {Q : α → sProp 𝕄} {cont : PUnit → Prog (TpuEff nD τ sig (Elt F) Λ₀ .tc) α} {off : Fin 3 → ℕ} (h : off = ![c.val, 0, 0])
    {f : (cc0_scratch1 : Ref sig .tc).ty.Contents (Elt F)}
    {hb} {h₁ : ((gM : Memref sig .tc .vmem S8x1x512 .bf16).access (Rect.unit (s := S8x1x512) off S1x1x512.size hb)).Stores Finset.univ} {h₂} :
    rowPts c c f
      ⊢ iprop((rowPts c c (gathered m ρ) -∗ wp frame (wpE (defs₀ (F := F)) 𝒱₀ (c : Thread nD τ) none) Set.univ (cont ⟨⟩) Q)
          -∗ wp frame (wpE (defs₀ (F := F)) 𝒱₀ (c : Thread nD τ) none) Set.univ
              (.op (.store gM (Rect.unit (s := S8x1x512) off S1x1x512.size hb) (k0_pay2 (accAt m ρ c)) Finset.univ h₁ h₂) cont) Q) := by
  subst h
  have e : (rowPts c c (gathered m ρ) : sProp 𝕄) = rowPts c c (((gM : Memref sig .tc .vmem S8x1x512 .bf16).access (rowR c)).write (Elt F) f (k0_pay2 (accAt m ρ c)) Finset.univ) := by
    unfold rowPts
    exact pointsTo_congr fun i hi => ((congrFun (own_write c f (accAt m ρ c)) i).trans (row_write_acc m ρ c f hi)).symm
  rw [e]
  unfold rowPts
  exact wp_store 𝒱₀ (c : Thread nD τ) none Set.univ (m := gM) (r := rowR c) (Mk := Finset.univ) (hx := h₁) (hm := h₂)
    (by rw [row_set]; exact (View.set_slice_whole cc0_scratch1 (rowR c)).le)

/-- The load before it, whose value is not used. -/
theorem own_load {α : Type} {Q : α → sProp 𝕄} {cont : (S1x1x512.Idx → Elt F .bf16) → Prog (TpuEff nD τ sig (Elt F) Λ₀ .tc) α} {off : Fin 3 → ℕ} (h : off = ![c.val, 0, 0])
    {f : (cc0_scratch1 : Ref sig .tc).ty.Contents (Elt F)} {prog : Prog (TpuEff nD τ sig (Elt F) Λ₀ .tc) α} (hc : ∀ v, cont v = prog)
    {hb} {hl : (gM : Memref sig .tc .vmem S8x1x512 .bf16).view.LoadsAt (Rect.unit (s := S8x1x512) off S1x1x512.size hb).toLoadRect} :
    rowPts c c f
      ⊢ iprop((rowPts c c f -∗ wp frame (wpE (defs₀ (F := F)) 𝒱₀ (c : Thread nD τ) none) Set.univ prog Q)
          -∗ wp frame (wpE (defs₀ (F := F)) 𝒱₀ (c : Thread nD τ) none) Set.univ
              (.op (.load gM (Rect.unit (s := S8x1x512) off S1x1x512.size hb).toLoadRect hl) cont) Q) := by
  subst h
  have := wp_load_rect (defs := defs₀ (F := F)) (Γ := .empty) 𝒱₀ (c : Thread nD τ) none Set.univ (m := gM) (r := rowR c) (hl := hl) (q := fullShare) (S := (rowM c).view.set) (f := f) (k := cont) (Q := Q)
    (by rw [row_set]; exact (View.set_slice_whole cc0_scratch1 (rowR c)).le)
  rw [hc] at this
  exact this

/-! ## The semaphores and rows the kernel computes -/

/-- A device by its computed number. -/
theorem dev_eq (d : ℕ) {v : ℕ} (h : v < nD) (e : v = (c.val + d) % 8) : (⟨v, h⟩ : Dev nD) = peer c d := Fin.ext e
/-- Semaphore `j` of an array of eight that starts at `base`. -/
theorem sem_at {base : ℕ} {hn} {off : Fin 1 → ℕ} (j : Fin 8) (h : off = ![j.val]) (hb) :
    ((((SemArray.consecutive base S8 hn : SemArray (Fin 18) S8).slice (Rect.unit (s := S8) off S1.size hb)).squeeze S_ squeezes_S1_S_).sem : Fin 18).val
      = base + j.val := by
  subst h
  show base + (S8.rowMajor ((Rect.unit (s := S8) ![j.val] S1.size hb).emb (Shape.reshapeEquiv squeezes_S1_S_.numel_eq fun i => i.elim0))).val = base + j.val
  generalize Shape.reshapeEquiv squeezes_S1_S_.numel_eq (fun i => i.elim0) = x
  have hx : (x (0 : Fin 1) : ℕ) < 1 := (x (0 : Fin 1)).isLt
  refine congrArg (base + ·) ((Shape.rowMajor_val_one _).trans ?_)
  show j.val + 1 * (x (0 : Fin 1) : ℕ) = j.val
  omega
/-- The sender's semaphore of index `j`, -/
theorem snd_sem {off : Fin 1 → ℕ} (j : Fin 8) (h : off = ![j.val]) (hb) :
    ((cc0_scratch2.slice (Rect.unit (s := S8) off S1.size hb)).squeeze S_ squeezes_S1_S_).sem = dmaS 0 j :=
  Fin.ext ((sem_at j h hb).trans (show 2 + j.val = 2 + (j.val + 8 * 0) by omega))
/-- the receiver's, -/
theorem rcv_sem {off : Fin 1 → ℕ} (j : Fin 8) (h : off = ![j.val]) (hb) :
    ((cc0_scratch3.slice (Rect.unit (s := S8) off S1.size hb)).squeeze S_ squeezes_S1_S_).sem = dmaS 1 j :=
  Fin.ext ((sem_at j h hb).trans (show 10 + j.val = 2 + (j.val + 8 * 1) by omega))
/-- and row `j`, as the kernel computes them. -/
theorem row_eq {off : Fin 3 → ℕ} (j : Fin 8) (h : off = ![j.val, 0, 0]) (hb) (hs) :
    ((gM : Memref sig .tc .vmem S8x1x512 .bf16).slice (Rect.unit (s := S8x1x512) off S1x1x512.size hb) hs).squeeze S1x512 squeezes_S1x1x512_S1x512 = rowM j := by
  subst h; rfl

/-- The offsets of what lands from `d` devices on. -/
theorem off4_at (i : Fin 7) {w : BitVec 32} (hw : w = BitVec.ofNat 32 (1 + i.val)) : k0_off4 c w = ![(peer c (i.val + 1)).val] := by
  subst hw; exact k0_off4_eq c i
/-- The same for the rows' offsets. -/
theorem off5_at (i : Fin 7) {w : BitVec 32} (hw : w = BitVec.ofNat 32 (1 + i.val)) : k0_off5 c w = ![(peer c (i.val + 1)).val, 0, 0] := by
  subst hw; exact k0_off5_eq c i

/-! ## The body -/

/-- What the body starts with: the tokens of the payments, -/
def payToks : sProp 𝕄 :=
  bigSep dists fun d => iprop(dutyTok ER (barCell (peer c d)) 0 c ∗ dutyTok ER (sndCell c d) 0 0 ∗ dutyTok ER (rcvCell (peer c d) c) 0 0)
/-- the positions at its own cells, -/
def spots : sProp 𝕄 :=
  iprop(atPos ER (barCell c) 0 ∅ 0 ∗ (bigSep Finset.univ fun j : Fin 8 => atPos ER ((c : Thread nD τ), .dma (dmaS 0 j)) 0 ∅ 0)
    ∗ bigSep Finset.univ fun j : Fin 8 => atPos ER ((c : Thread nD τ), .dma (dmaS 1 j)) 0 ∅ 0)
/-- and the credits of what the others pay. -/
def credits : sProp 𝕄 :=
  iprop(cred (tallyAt (barCell c) () 7) ∗ bigSep dists fun d => cred (tallyAt (rcvCell c (peer c d)) () N))
/-- What it ends with: every cell's counter at zero. -/
def closed : sProp 𝕄 :=
  iprop(semVal (barCell c) 0 ∗ (bigSep Finset.univ fun j : Fin 8 => semVal ((c : Thread nD τ), .dma (dmaS 0 j)) 0)
    ∗ bigSep Finset.univ fun j : Fin 8 => semVal ((c : Thread nD τ), .dma (dmaS 1 j)) 0)

/-- The result: the maximum of the gathered rows, the same on every device. -/
def outAt : (cc0_stg1_0 : Ref sig .tc).ty.Contents (Elt F) := k0_pay3 (gathered m ρ)

/-- The tokens by kind of payment. -/
theorem payToks_eq : (payToks c : sProp 𝕄) = iprop((bigSep dists fun d => dutyTok ER (barCell (peer c d)) 0 c) ∗ (bigSep dists fun d => dutyTok ER (sndCell c d) 0 0)
    ∗ bigSep dists fun d => dutyTok ER (rcvCell (peer c d) c) 0 0) :=
  (pair_split dists _ _).trans (congrArg (BIBase.sep _) (pair_split dists _ _))
/-- The positions, with those at the two cells that nobody pays set apart. -/
theorem spots_eq : (spots c : sProp 𝕄) = iprop(atPos ER (barCell c) 0 ∅ 0
    ∗ (atPos ER (sndCell c 0) 0 ∅ 0 ∗ bigSep dists fun d => atPos ER (sndCell c d) 0 ∅ 0)
    ∗ (atPos ER (rcvCell c c) 0 ∅ 0 ∗ bigSep dists fun d => atPos ER (rcvCell c (peer c d)) 0 ∅ 0)) := by
  unfold spots
  rw [bigSep_devices (0 : Fin 8), bigSep_devices c]
  rfl

end Steps

end Cert.KernelIdeal.Gather

end
-- ==== Proof.KernelIdealBody.lean ====
/-
One device's run of the kernel's body, from what the launch deals it to what it leaves: the seven signals, the row of
maxima, the wait for the seven others, the seven copies, the own row, the seven landings, the maximum of the rows, and
the seven ends of the copies.
-/
module

public import proofs.«01_k».proof.Proof.KernelIdealSteps
public import proofs.«01_k».proof.Proof.Gen.KernelIdeal.Points

@[expose] public section

noncomputable section

namespace Cert.KernelIdeal.Gather

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

set_option maxHeartbeats 1600000 in
/-- The body on any device: from its tokens, positions, credits and buffers, with its argument staged, it ends with
    every cell closed, nothing owed and the result staged. -/
theorem body_run (Kt : PUnit → sProp 𝕄) :
    iprop(records m ρ K ∗ payToks c ∗ spots c ∗ credits c ∗ levAts L lv
        ∗ (∃ f : Buf (Elt F) ((c : Thread nD τ).loc cc0_scratch0), (c : Thread nD τ).loc cc0_scratch0 ↦{fullShare} f)
        ∗ (∃ f : Buf (Elt F) ((c : Thread nD τ).loc cc0_scratch1), (c : Thread nD τ).loc cc0_scratch1 ↦{fullShare} f)
        ∗ (∃ W, owes (c : Thread nD τ) (owed₀ c) W)
        ∗ ((c : Thread nD τ).loc cc0_stg0_0 ↦{fullShare} xAt m ρ c)
        ∗ (∃ f : Buf (Elt F) ((c : Thread nD τ).loc cc0_stg1_0), (c : Thread nD τ).loc cc0_stg1_0 ↦{fullShare} f))
      ⊢ iprop((closed c
          ∗ (∃ f : Buf (Elt F) ((c : Thread nD τ).loc cc0_scratch0), (c : Thread nD τ).loc cc0_scratch0 ↦{fullShare} f)
          ∗ (∃ f : Buf (Elt F) ((c : Thread nD τ).loc cc0_scratch1), (c : Thread nD τ).loc cc0_scratch1 ↦{fullShare} f)
          ∗ (∃ W, owes (c : Thread nD τ) 0 W)
          ∗ ((c : Thread nD τ).loc cc0_stg0_0 ↦{fullShare} xAt m ρ c)
          ∗ ((c : Thread nD τ).loc cc0_stg1_0 ↦{fullShare} outAt m ρ) -∗ Kt ⟨⟩)
        -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  iintro ⟨#HR, Htoks, Hspots, Hcredits, #Hlev, ⟨%fa, Hacc⟩, ⟨%fg, Hg⟩, HO, Hx, ⟨%fo, Hout⟩⟩ Hk
  ihave Htoks := (Entails.of_eq (payToks_eq (F := F) c)) $$ Htoks
  ihave Hspots := (Entails.of_eq (spots_eq (F := F) c)) $$ Hspots
  unfold credits
  icases Htoks with ⟨HtB, HtS, HtR⟩
  icases Hspots with ⟨HaB, ⟨HaS0, HaS⟩, ⟨HaR0, HaR⟩⟩
  icases Hcredits with ⟨HcB, HcR⟩
  -- the rows of the gather buffer: its own, and the seven that the signals hand over
  ihave Hg := (Entails.of_eq ((rows_split c fg).trans (bigSep_devices c _))) $$ Hg
  icases Hg with ⟨Hown, Hrows⟩
  ihave HS := (signals_start c fg) $$ [HO HtB Hrows]
  · isplitl [HO]; · iexact HO
    isplitl [HtB] <;> iassumption
  -- the signals
  iapply (signal_step m ρ K c (k := 1) (by decide) (dev_eq c 1 (k0_dev1_lt c) (k0_dev1_eq c)) (by decide)) $$ [HS]
  · isplitr; · iexact HR
    iexact HS
  iintro HS
  iapply (signal_step m ρ K c (k := 2) (by decide) (dev_eq c 2 (k0_dev2_lt c) (k0_dev2_eq c)) (by decide)) $$ [HS]
  · isplitr; · iexact HR
    iexact HS
  iintro HS
  iapply (signal_step m ρ K c (k := 3) (by decide) (dev_eq c 3 (k0_dev3_lt c) (k0_dev3_eq c)) (by decide)) $$ [HS]
  · isplitr; · iexact HR
    iexact HS
  iintro HS
  iapply (signal_step m ρ K c (k := 4) (by decide) (dev_eq c 4 (k0_dev4_lt c) (k0_dev4_eq c)) (by decide)) $$ [HS]
  · isplitr; · iexact HR
    iexact HS
  iintro HS
  iapply (signal_step m ρ K c (k := 5) (by decide) (dev_eq c 5 (k0_dev5_lt c) (k0_dev5_eq c)) (by decide)) $$ [HS]
  · isplitr; · iexact HR
    iexact HS
  iintro HS
  iapply (signal_step m ρ K c (k := 6) (by decide) (dev_eq c 6 (k0_dev6_lt c) (k0_dev6_eq c)) (by decide)) $$ [HS]
  · isplitr; · iexact HR
    iexact HS
  iintro HS
  iapply (signal_step m ρ K c (k := 7) (by decide) (dev_eq c 7 (k0_dev7_lt c) (k0_dev7_eq c)) (by decide)) $$ [HS]
  · isplitr; · iexact HR
    iexact HS
  iintro HS
  ihave HO := (signals_end c) $$ HS
  -- the device's maximum into the row buffer
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Hacc; iintro Hacc
  iapply (wp_store 𝒱₀ (c : Thread nD τ) none Set.univ (m := aM) (r := r2) (Mk := Finset.univ) (Finset.subset_univ _)) $$ Hacc; iintro Hacc
  rw [write_acc]
  -- the wait for the seven signals
  icases HO with ⟨%W, HO⟩
  ihave Hkn := (known_bar m ρ K c) $$ HR
  icases Hkn with ⟨#HI, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owedRcv c 1) (W := W) (R := 0) (m := 0) (T := ∅)
      (by rw [expect_bar]; decide)) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hpay := (Entails.of_eq (paid_bar m ρ c)) $$ Hpay
  ihave HS := (sends_start m ρ c) $$ [HO Hacc HtS HtR Hpay]
  · isplitl [HO]; · iexists _; iexact HO
    isplitl [Hacc]; · rw [accPts_eq]; iexact Hacc
    isplitl [HtS]; · iexact HtS
    isplitl [HtR] <;> iassumption
  -- the copies
  iapply (send_step m ρ K c (k := 1) (by decide) (dev_eq c 1 (k0_dev8_lt c) (k0_dev8_eq c)) (snd_sem (at8 1) rfl _) (rcv_sem c (k0_off1_eq c) _) (row_eq c (k0_off2_eq c) _ _)) $$ [HS]
  · isplitr; · iexact HR
    iexact HS
  iintro HS
  iapply (send_step m ρ K c (k := 2) (by decide) (dev_eq c 2 (k0_dev9_lt c) (k0_dev9_eq c)) (snd_sem (at8 2) rfl _) (rcv_sem c (k0_off1_eq c) _) (row_eq c (k0_off2_eq c) _ _)) $$ [HS]
  · isplitr; · iexact HR
    iexact HS
  iintro HS
  iapply (send_step m ρ K c (k := 3) (by decide) (dev_eq c 3 (k0_dev10_lt c) (k0_dev10_eq c)) (snd_sem (at8 3) rfl _) (rcv_sem c (k0_off1_eq c) _) (row_eq c (k0_off2_eq c) _ _)) $$ [HS]
  · isplitr; · iexact HR
    iexact HS
  iintro HS
  iapply (send_step m ρ K c (k := 4) (by decide) (dev_eq c 4 (k0_dev11_lt c) (k0_dev11_eq c)) (snd_sem (at8 4) rfl _) (rcv_sem c (k0_off1_eq c) _) (row_eq c (k0_off2_eq c) _ _)) $$ [HS]
  · isplitr; · iexact HR
    iexact HS
  iintro HS
  iapply (send_step m ρ K c (k := 5) (by decide) (dev_eq c 5 (k0_dev12_lt c) (k0_dev12_eq c)) (snd_sem (at8 5) rfl _) (rcv_sem c (k0_off1_eq c) _) (row_eq c (k0_off2_eq c) _ _)) $$ [HS]
  · isplitr; · iexact HR
    iexact HS
  iintro HS
  iapply (send_step m ρ K c (k := 6) (by decide) (dev_eq c 6 (k0_dev13_lt c) (k0_dev13_eq c)) (snd_sem (at8 6) rfl _) (rcv_sem c (k0_off1_eq c) _) (row_eq c (k0_off2_eq c) _ _)) $$ [HS]
  · isplitr; · iexact HR
    iexact HS
  iintro HS
  iapply (send_step m ρ K c (k := 7) (by decide) (dev_eq c 7 (k0_dev14_lt c) (k0_dev14_eq c)) (snd_sem (at8 7) rfl _) (rcv_sem c (k0_off1_eq c) _) (row_eq c (k0_off2_eq c) _ _)) $$ [HS]
  · isplitr; · iexact HR
    iexact HS
  iintro HS
  ihave HS := (sends_end m ρ c) $$ HS
  icases HS with ⟨HO, Hacc, HcS⟩
  -- the own row
  iapply (acc_load m ρ c) $$ Hacc; iintro Hacc
  iapply (own_load c (k0_off3_eq c) (fun _ => rfl)) $$ Hown; iintro Hown
  iapply (own_store m ρ c (k0_off3_eq c)) $$ Hown; iintro Hown
  ihave HS := (pending_start c (rcvAt c) (fun d => rowPts c (peer c d) (gathered m ρ))) $$ [HO HcR HaR]
  · isplitl [HO]; · iexact HO
    isplitl [HcR] <;> iassumption
  ihave HS := (show Pending c (rcvAt c) (fun d => rowPts c (peer c d) (gathered m ρ)) 1 ⊢ Landed m ρ c 1 from BI.Entails.refl _) $$ HS
  -- the landings
  iapply (landed_step m ρ K c (k := 1) (by decide) (rcv_sem (peer c 1) (off4_at c 0 (w := 1#32) rfl) _) (row_eq (peer c 1) (off5_at c 0 (w := 1#32) rfl) _ _)) $$ [HS]
  · isplitr; · iexact HR
    iexact HS
  iintro HS
  iapply (landed_step m ρ K c (k := 2) (by decide) (rcv_sem (peer c 2) (off4_at c 1 (w := 2#32) rfl) _) (row_eq (peer c 2) (off5_at c 1 (w := 2#32) rfl) _ _)) $$ [HS]
  · isplitr; · iexact HR
    iexact HS
  iintro HS
  iapply (landed_step m ρ K c (k := 3) (by decide) (rcv_sem (peer c 3) (off4_at c 2 (w := 3#32) rfl) _) (row_eq (peer c 3) (off5_at c 2 (w := 3#32) rfl) _ _)) $$ [HS]
  · isplitr; · iexact HR
    iexact HS
  iintro HS
  iapply (landed_step m ρ K c (k := 4) (by decide) (rcv_sem (peer c 4) (off4_at c 3 (w := 4#32) rfl) _) (row_eq (peer c 4) (off5_at c 3 (w := 4#32) rfl) _ _)) $$ [HS]
  · isplitr; · iexact HR
    iexact HS
  iintro HS
  iapply (landed_step m ρ K c (k := 5) (by decide) (rcv_sem (peer c 5) (off4_at c 4 (w := 5#32) rfl) _) (row_eq (peer c 5) (off5_at c 4 (w := 5#32) rfl) _ _)) $$ [HS]
  · isplitr; · iexact HR
    iexact HS
  iintro HS
  iapply (landed_step m ρ K c (k := 6) (by decide) (rcv_sem (peer c 6) (off4_at c 5 (w := 6#32) rfl) _) (row_eq (peer c 6) (off5_at c 5 (w := 6#32) rfl) _ _)) $$ [HS]
  · isplitr; · iexact HR
    iexact HS
  iintro HS
  iapply (landed_step m ρ K c (k := 7) (by decide) (rcv_sem (peer c 7) (off4_at c 6 (w := 7#32) rfl) _) (row_eq (peer c 7) (off5_at c 6 (w := 7#32) rfl) _ _)) $$ [HS]
  · isplitr; · iexact HR
    iexact HS
  iintro HS
  ihave HS := (show Landed m ρ c 8 ⊢ Pending c (rcvAt c) (fun d => rowPts c (peer c d) (gathered m ρ)) 8 from BI.Entails.refl _) $$ HS
  ihave HS := (pending_end c (rcvAt c) (fun d => rowPts c (peer c d) (gathered m ρ))) $$ HS
  icases HS with ⟨HO, Hrows, HaR⟩
  ihave Hg := (Entails.of_eq ((rows_split c (gathered m ρ)).trans (bigSep_devices c _)).symm) $$ [Hown Hrows]
  · isplitl [Hown] <;> iassumption
  -- the maximum of the rows
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_out]
  ihave HS := (pending_start c sndAt (fun d => accPts m ρ c (piece d))) $$ [HO HcS HaS]
  · isplitl [HO]; · iexact HO
    isplitl [HcS] <;> iassumption
  ihave HS := (show Pending c sndAt (fun d => accPts m ρ c (piece d)) 1 ⊢ Ended m ρ c 1 from BI.Entails.refl _) $$ HS
  -- the ends of the copies
  iapply (ended_step m ρ K c (k := 1) (by decide) (snd_sem (at8 1) rfl _)) $$ [HS]
  · isplitr; · iexact HR
    iexact HS
  iintro HS
  iapply (ended_step m ρ K c (k := 2) (by decide) (snd_sem (at8 2) rfl _)) $$ [HS]
  · isplitr; · iexact HR
    iexact HS
  iintro HS
  iapply (ended_step m ρ K c (k := 3) (by decide) (snd_sem (at8 3) rfl _)) $$ [HS]
  · isplitr; · iexact HR
    iexact HS
  iintro HS
  iapply (ended_step m ρ K c (k := 4) (by decide) (snd_sem (at8 4) rfl _)) $$ [HS]
  · isplitr; · iexact HR
    iexact HS
  iintro HS
  iapply (ended_step m ρ K c (k := 5) (by decide) (snd_sem (at8 5) rfl _)) $$ [HS]
  · isplitr; · iexact HR
    iexact HS
  iintro HS
  iapply (ended_step m ρ K c (k := 6) (by decide) (snd_sem (at8 6) rfl _)) $$ [HS]
  · isplitr; · iexact HR
    iexact HS
  iintro HS
  iapply (ended_step m ρ K c (k := 7) (by decide) (snd_sem (at8 7) rfl _)) $$ [HS]
  · isplitr; · iexact HR
    iexact HS
  iintro HS
  ihave HS := (show Ended m ρ c 8 ⊢ Pending c sndAt (fun d => accPts m ρ c (piece d)) 8 from BI.Entails.refl _) $$ HS
  ihave HS := (pending_end c sndAt (fun d => accPts m ρ c (piece d))) $$ HS
  icases HS with ⟨HO, Hps, HaS⟩
  ihave Hacc := (Entails.of_eq ((acc_split m ρ c 7).symm.trans (accPts_eq m ρ c))) $$ [Hps Hacc]
  · isplitl [Hps] <;> iassumption
  -- the cells close
  imod (close_eight m ρ K c 0 0 (duties_snd_zero m ρ c)) $$ [HaS0 HaS] with HzS
  · isplitr; · iexact HR
    isplitl [HaS0]; · iexact HaS0
    iexact HaS
  imod (close_eight m ρ K c 1 c (duties_rcv_own m ρ c)) $$ [HaR0 HaR] with HzR
  · isplitr; · iexact HR
    isplitl [HaR0] <;> iassumption
  imod (close_one m ρ K (c, .inl ()) (R := 1) (duties_later m ρ _)) $$ [HaB] with HzB
  · isplitr; · iexact HR
    iexact HaB
  rw [wp_ret]; imodintro
  iapply Hk
  unfold closed outAt
  isplitl [HzB HzS HzR]
  · isplitl [HzB]; · iexact HzB
    isplitl [HzS] <;> iassumption
  isplitl [Hacc]; · iexists _; iexact Hacc
  isplitl [Hg]; · iexists _; iexact Hg
  isplitl [HO]; · iexact HO
  isplitl [Hx] <;> iassumption

end Cert.KernelIdeal.Gather

end
-- ==== Proof.KernelIdealRun.lean ====
/-
The launch of the kernel on the eight devices: what each device is dealt at the start, that this is what the body runs
from, and the run of the whole program, with what it leaves in the argument and in the result.
-/
module

public import proofs.«01_k».proof.Proof.KernelIdealBody
public import Idealize.ShloMosaic.Lib.Pipeline.Value
public import Idealize.ShloMosaic.Lib.Pipeline.CollectiveSegs

@[expose] public section

noncomputable section

namespace Cert.KernelIdeal.Gather

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves, as the pipeline states it -/

/-- What device `c` is dealt. -/
def ghost (c : Dev nD) : sProp 𝕄 := iprop(∃ K, records m ρ K ∗ payToks c ∗ spots c)
/-- What the body starts from besides the buffers. -/
def start (c : Dev nD) : sProp 𝕄 := iprop(ghost m ρ c ∗ credits c ∗ levAts L lv)

/-- The two buffers of the kernel's own, at any contents. -/
def buffers (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

/-- The pipeline's record: the argument stays, the result is the maximum; before the body its start, after it the closed cells. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ
  Φ t := match t with
    | ⟨0, _⟩ => iprop(start m ρ c ∗ buffers c)
    | ⟨_ + 1, _⟩ => iprop(closed c ∗ buffers c)
  q _ := fullShare
  owed t := match t with
    | ⟨0, _⟩ => owed₀ c
    | ⟨_ + 1, _⟩ => 0

omit [FloatOps F] in
/-- Ownership of a whole buffer by what it reads is ownership of its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the pipeline hands the body, -/
def bodyPre (c : Dev nD) : sProp 𝕄 :=
  iprop((start m ρ c ∗ buffers c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it takes back. -/
def bodyPost (c : Dev nD) : sProp 𝕄 :=
  iprop((closed c ∗ buffers c) ∗ (dats m ρ 0 c).owesAt () t0_0.succ ∗ stg c cc0_stg0_0 (xAt m ρ c) ∗ stg c cc0_stg1_0 (outAt m ρ))

/-- The body's run, from what the pipeline hands it to what it hands back. -/
theorem body_staged (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m ρ c) := by
  unfold bodyPre start ghost buffers
  iintro ⟨⟨⟨⟨%K, HR, Htoks, Hspots⟩, Hcr, Hlev⟩, Ha, Hg⟩, Ho, ⟨%d0, %g0, %hg0, Hx⟩, ⟨%d1, %g1, %hg1, Hout⟩⟩
  have hx : g0 = xAt m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = owed₀ c from rfl]
  iapply (body_run m ρ K c fun _ => bodyPost m ρ c) $$ [HR Htoks Hspots Hcr Hlev Ha Hg HO Hx Hout]
  · isplitl [HR]; · iexact HR
    isplitl [Htoks]; · iexact Htoks
    isplitl [Hspots]; · iexact Hspots
    isplitl [Hcr]; · iexact Hcr
    isplitl [Hlev]; · iexact Hlev
    isplitl [Ha]; · iexact Ha
    isplitl [Hg]; · iexact Hg
    isplitl [HO]; · iexists W; iexact HO
    isplitl [Hx]; · iexact Hx
    iexists g1; iexact Hout
  iintro ⟨Hz, Ha, Hg, ⟨%W', HO⟩, Hx, Hout⟩
  unfold bodyPost buffers Dat.owesAt Pipeline.owesWithin
  rw [show (dats m ρ 0 c).owed t0_0.succ = 0 from rfl]
  isplitl [Hz Ha Hg]
  · isplitl [Hz]; · iexact Hz
    isplitl [Ha] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 40000 in
/-- The body meets the pipeline's record. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m ρ c)
  exact body_staged m ρ c

/-! ## Dealing the cells and the tokens -/

/-- The copies' semaphores by number. -/
abbrev osem : Fin 16 → SemLoc sig := fun i => .dma (⟨2 + i.val, by omega⟩ : Fin 18)

/-- They are the kernel's own, each listed once. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- Different kinds of cell have different semaphores, -/
theorem csem_injective : Function.Injective csem := by
  rintro (⟨⟩ | ⟨b, j⟩) (⟨⟩ | ⟨b', j'⟩) h
  · rfl
  · exact absurd h (fun h' => by cases h')
  · exact absurd h (fun h' => by cases h')
  · have hv : 2 + (j.val + 8 * b.val) = 2 + (j'.val + 8 * b'.val) :=
      congrArg (fun s : SemLoc sig => match s with | .dma (q : Fin 18) => q.val | .reg _ => 0) h
    have hb : b = b' := Fin.ext (by omega)
    have hj : j = j' := Fin.ext (by omega)
    rw [hb, hj]

/-- and different cells lie apart. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells, -/
def cells : Finset (GSem nD τ sig) := Finset.univ.map ⟨kcell, kcell_injective⟩

/-- and a device's cells with their payers: every device on the barrier's, one name on the others. -/
abbrev TI : Type := Fin 8 ⊕ (Fin 2 × Fin 8)
/-- The cell, round and payer of a token. -/
abbrev tokOf (x : Dev nD × TI) : GSem nD τ sig × ℕ × Dev nD := match x.2 with
  | .inl p => (barCell x.1, 0, p)
  | .inr bj => (kcell (x.1, .inr bj), 0, 0)

/-- No two tokens are alike. -/
theorem tokOf_injective : Function.Injective tokOf := by
  rintro ⟨c, i⟩ ⟨c', i'⟩ h
  have h1 : c = c' := by
    have := congrArg (fun x : GSem nD τ sig × ℕ × Dev nD => x.1.1.1) h
    rcases i with p | bj <;> rcases i' with p' | bj' <;> exact this
  subst h1
  rcases i with p | bj <;> rcases i' with p' | bj'
  · have : p = p' := congrArg (fun x : GSem nD τ sig × ℕ × Dev nD => x.2.2) h
    rw [this]
  · have h2 : csem (.inl ()) = csem (.inr bj') := congrArg (fun x : GSem nD τ sig × ℕ × Dev nD => x.1.2) h
    exact absurd (csem_injective h2) Sum.inl_ne_inr
  · have h2 : csem (.inr bj) = csem (.inl ()) := congrArg (fun x : GSem nD τ sig × ℕ × Dev nD => x.1.2) h
    exact absurd (csem_injective h2) Sum.inr_ne_inl
  · have h2 : csem (.inr bj) = csem (.inr bj') := congrArg (fun x : GSem nD τ sig × ℕ × Dev nD => x.1.2) h
    rw [Sum.inr_injective (csem_injective h2)]

/-- All tokens. -/
def tokens : Finset (GSem nD τ sig × ℕ × Dev nD) := Finset.univ.map ⟨tokOf, tokOf_injective⟩

/-- The resources that the launch starts with. -/
def u₀ : UU :=
  (initOf (Pipeline.cells cfgs cellOf_inj) (Pipeline.launchToks cfgs cellOf_inj), initOf cells tokens)

/-- The tokens of the payments into device `c`'s own cells. -/
def toks (c : Dev nD) : sProp 𝕄 :=
  iprop((bigSep Finset.univ fun p : Fin 8 => dutyTok ER (barCell c) 0 p)
    ∗ (bigSep Finset.univ fun j : Fin 8 => dutyTok ER ((c : Thread nD τ), .dma (dmaS 0 j)) 0 0)
    ∗ bigSep Finset.univ fun j : Fin 8 => dutyTok ER ((c : Thread nD τ), .dma (dmaS 1 j)) 0 0)

/-- A device's cells before they are shared out. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

omit [FloatOps F] in
/-- A family over one kind and the two eights: three families. -/
theorem kinds_split {A : Type} [Fintype A] (Φ : A ⊕ (Fin 2 × Fin 8) → sProp 𝕄) :
    bigSep Finset.univ Φ = iprop((bigSep Finset.univ fun a => Φ (.inl a)) ∗ (bigSep Finset.univ fun j => Φ (.inr (0, j))) ∗ bigSep Finset.univ fun j => Φ (.inr (1, j))) := by
  rw [bigSep_univ_sum, bigSep_univ_prod, bigSep_W0]
  rfl

omit [FloatOps F] in
/-- A family over a device's cells: the barrier's, the senders' and the receivers'. -/
theorem cells_split (Φ : CI → sProp 𝕄) :
    bigSep Finset.univ Φ = iprop(Φ (.inl ()) ∗ (bigSep Finset.univ fun j => Φ (.inr (0, j))) ∗ bigSep Finset.univ fun j => Φ (.inr (1, j))) := by
  rw [kinds_split, show (Finset.univ : Finset Unit) = {()} from rfl, bigSep_singleton]

/-- The rounds' resources are every device's cells before they are shared out. -/
theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [kinds_split]; rfl
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The sixteen semaphores of the copies are the kernel's own, -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal ((c : Thread nD τ), .dma (dmaS 0 j)) 0)
      ∗ bigSep Finset.univ fun j : Fin 8 => semVal ((c : Thread nD τ), .dma (dmaS 1 j)) 0) := by
  unfold Pipeline.ownSems0
  rw [bigSep_univ_equiv (finProdFinEquiv : Fin 2 × Fin 8 ≃ Fin 16), bigSep_univ_prod, bigSep_W0]
  rfl
omit [FloatOps F] in
/-- and the barrier's is the one that is not. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero and its cells give the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hos := (Entails.of_eq (ownSems0_eq (F := F) c)) $$ Hos
  ihave Hus := (Entails.of_eq (unscopedSems0_eq (F := F) c)) $$ Hus
  ihave Hv := (Entails.of_eq (cells_split (F := F) (fun k => semVal (kcell (c, k)) 0)).symm) $$ [Hos Hus]
  · isplitl [Hus]; · iexact Hus
    iexact Hos
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Something for every pair of devices, given by the first: each second device has it of the seven others. -/
theorem deal (T : Dev nD → Dev nD → sProp 𝕄) :
    (bigSep Finset.univ fun c : Dev nD => bigSep Finset.univ fun p : Dev nD => T c p) ⊢ bigSep Finset.univ fun p : Dev nD => bigSep dists fun d => T (peer p d) p := by
  rw [Pipeline.bigSep_univ_comm]
  refine bigSep_mono fun p _ => ?_
  rw [bigSep_devices p]
  show (_ : sProp 𝕄) ⊢ _
  iintro ⟨-, H⟩
  iexact H

/-- The tokens go to those who pay. -/
theorem toks_around : (bigSep Finset.univ fun c : Dev nD => (toks c : sProp 𝕄)) ⊢ bigSep Finset.univ fun c : Dev nD => payToks c := by
  have hS (c : Dev nD) : (bigSep Finset.univ fun j : Fin 8 => (dutyTok ER ((c : Thread nD τ), .dma (dmaS 0 j)) 0 0 : sProp 𝕄))
      ⊢ bigSep dists fun d => dutyTok ER (sndCell c d) 0 0 := by
    rw [bigSep_devices 0]
    show (_ : sProp 𝕄) ⊢ _
    iintro ⟨-, H⟩
    iexact H
  have hB := deal (F := F) fun c p => dutyTok ER (barCell c) 0 p
  have hR := deal (F := F) fun c p => dutyTok ER (rcvCell c p) 0 0
  have hSs : (bigSep Finset.univ fun c : Dev nD => bigSep Finset.univ fun j : Fin 8 => (dutyTok ER ((c : Thread nD τ), .dma (dmaS 0 j)) 0 0 : sProp 𝕄))
      ⊢ bigSep Finset.univ fun c : Dev nD => bigSep dists fun d => dutyTok ER (sndCell c d) 0 0 := bigSep_mono fun c _ => hS c
  rw [show (fun c : Dev nD => (payToks c : sProp 𝕄)) = _ from funext fun c => payToks_eq (F := F) c]
  unfold toks
  rw [bigSep_sep', bigSep_sep', bigSep_sep', bigSep_sep']
  show (_ : sProp 𝕄) ⊢ _
  iintro ⟨H1, H2, H3⟩
  isplitl [H1]; · iapply hB; iexact H1
  isplitl [H2]; · iapply hSs; iexact H2
  iapply hR; iexact H3

/-- All invariants are shared, and all tokens dealt, so that each device has what it is dealt. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (with_fact (R := records m ρ K) (Φ := fun c : Dev nD => iprop(spots c ∗ payToks c)) fun c _ => show iprop(records m ρ K ∗ spots c ∗ payToks c) ⊢ ghost m ρ c from by
    unfold ghost
    iintro ⟨HR, Hs, Ht⟩
    iexists K
    isplitl [HR]; · iexact HR
    isplitl [Ht] <;> iassumption)
  isplitr
  · unfold records; rw [bigSep_sep']
    isplitr; · iexact HI
    iexact HR
  · rw [bigSep_sep']
    isplitl [Hat]
    · iapply (show (bigSep Finset.univ fun c : Dev nD => bigSep Finset.univ fun k : CI => (atPos ER (kcell (c, k)) 0 ∅ 0 : sProp 𝕄)) ⊢ bigSep Finset.univ fun c : Dev nD => spots c from
        bigSep_mono fun c _ => Entails.of_eq (cells_split fun k : CI => atPos ER (kcell (c, k)) 0 ∅ 0))
      iexact Hat
    · iexact Htk

/-- The launch's global step: from all counters and cells to what each device is dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credits at launch -/

/-- Barrier cells are equal only on one device, -/
theorem bar_eq_iff {a b : Dev nD} : barCell a = barCell b ↔ b = a :=
  ⟨fun h => (congrArg (fun g : GSem nD τ sig => g.1.1) h).symm, fun h => h ▸ rfl⟩
/-- receivers' cells only on one device and for one row, -/
theorem rcv_eq_iff {a b i j : Dev nD} : rcvCell a i = rcvCell b j ↔ b = a ∧ j = i := by
  constructor
  · intro h
    have h1 := kcell_injective (a₁ := (a, .inr (1, i))) (a₂ := (b, .inr (1, j))) h
    have h2 : i = j := congrArg (fun x : Dev nD × CI => match x.2 with | .inr bj => bj.2 | .inl _ => 0) h1
    exact ⟨(congrArg Prod.fst h1).symm, h2.symm⟩
  · rintro ⟨rfl, rfl⟩; rfl
/-- and a barrier cell is no receiver's cell. -/
theorem bar_ne_rcv {a b j : Dev nD} : barCell a ≠ rcvCell b j := fun h => by
  have h1 := kcell_injective (a₁ := (a, .inl ())) (a₂ := (b, .inr (1, j))) h
  exact absurd (congrArg Prod.snd h1) Sum.inl_ne_inr

/-- What the devices owe on `c`'s barrier cell together: seven units. -/
theorem launch_bar (c : Dev nD) :
    tallyOn (barCell c) (launchCredit (Pipeline.owing owed₀) 0 (barCell c)) = (tallyAt (barCell c) () 7 : CellTallies nD τ sig Unit) := by
  have h (a : Dev nD) : owed₀ a (barCell c) () = ∑ d ∈ dists, if peer a d = c then 1 else 0 := by
    unfold owed₀
    rw [Pi.add_apply, Finsupp.add_apply, owedBar_at, owedRcv_at, Finset.sum_eq_zero (s := Finset.Ico 1 8) (f := fun d => if barCell c = rcvCell (peer a d) a then N else 0) (fun d _ => if_neg bar_ne_rcv),
      Nat.add_zero]
    exact Finset.sum_congr rfl fun d _ => if_congr bar_eq_iff rfl rfl
  unfold tallyAt; refine congrArg _ (Finsupp.ext fun u => ?_); cases u
  rw [Pipeline.launchCredit_owing, Finsupp.single_eq_same, Finset.sum_congr rfl fun a _ => h a]
  exact count_peers c

/-- What they owe on `c`'s cell for the row of another: one row's count. -/
theorem launch_rcv {c j : Dev nD} (hj : j ≠ c) :
    tallyOn (rcvCell c j) (launchCredit (Pipeline.owing owed₀) 0 (rcvCell c j)) = (tallyAt (rcvCell c j) () N : CellTallies nD τ sig Unit) := by
  have h (a : Dev nD) : owed₀ a (rcvCell c j) () = N * ∑ d ∈ dists, if peer a d = c ∧ a = j then 1 else 0 := by
    unfold owed₀
    rw [Pi.add_apply, Finsupp.add_apply, owedBar_at, owedRcv_at, Finset.sum_eq_zero (s := Finset.Ico 1 8) (f := fun d => if rcvCell c j = barCell (peer a d) then 1 else 0) (fun d _ => if_neg (Ne.symm bar_ne_rcv)),
      Nat.zero_add, Finset.mul_sum]
    exact Finset.sum_congr rfl fun d _ => by rw [mul_ite, Nat.mul_one, Nat.mul_zero]; exact if_congr rcv_eq_iff rfl rfl
  unfold tallyAt; refine congrArg _ (Finsupp.ext fun u => ?_); cases u
  rw [Pipeline.launchCredit_owing, Finsupp.single_eq_same, Finset.sum_congr rfl fun a _ => h a, ← Finset.mul_sum]
  exact (congrArg (N * ·) ((count_peers_from c j).trans (if_neg hj))).trans (Nat.mul_one N)

/-- The receivers' semaphores are eight different ones. -/
theorem rcvSem_injective : Function.Injective fun j : Fin 8 => (SemLoc.dma (dmaS 1 j) : SemLoc sig) := fun i j h =>
  congrArg Prod.snd (Sum.inr_injective (csem_injective (a₁ := .inr (1, i)) (a₂ := .inr (1, j)) h))

omit [FloatOps F] in
/-- What all devices owe device `c` at launch is its credits. -/
theorem creds (c : Dev nD) : (Pipeline.launchCred owed₀ c : sProp 𝕄) ⊢ credits c := by
  unfold Pipeline.launchCred credits
  rw [bigSep_univ_at _ (SemLoc.reg barS), launch_bar]
  refine sep_mono_right ?_
  have hsub : Finset.univ.map ⟨_, rcvSem_injective⟩ ⊆ (Finset.univ.erase (SemLoc.reg barS) : Finset (SemLoc sig)) := fun s hs => by
    obtain ⟨j, -, rfl⟩ := Finset.mem_map.mp hs
    exact Finset.mem_erase.mpr ⟨fun h => (by cases h), Finset.mem_univ _⟩
  refine (bigSep_subset hsub).trans ?_
  rw [bigSep_map, bigSep_devices c]
  show (_ : sProp 𝕄) ⊢ _
  iintro ⟨-, H⟩
  iapply (show (bigSep dists fun d => cred (tallyOn (rcvCell c (peer c d)) (launchCredit (Pipeline.owing owed₀) 0 (rcvCell c (peer c d)))) : sProp 𝕄)
    ⊢ bigSep dists fun d => cred (tallyAt (rcvCell c (peer c d)) () N) from bigSep_mono fun d hd => Entails.of_eq (congrArg (fun x => (cred x : sProp 𝕄)) (launch_rcv (peer_ne c hd))))
  iexact H

/-! ## What the launch asks -/

/-- What the launch gives a device is its start, -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- which with the two buffers is what stands before the body; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ buffers c) from rfl, scopedRest0_eq]
  unfold buffers
  iintro ⟨Hs, -, Hr⟩
  isplitl [Hs] <;> iassumption

/-- what stands after it gives the counters, at zero, and the buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ buffers c) from rfl, scopedRest0_eq, ownSems0_eq, unscopedSems0_eq]
  unfold buffers closed
  iintro ⟨⟨HzB, Hz⟩, Hr⟩
  isplitl [HzB]; · iexact HzB
  isplitl [Hz] <;> iassumption

omit [FloatOps F] in
/-- The staging semaphores come before every cell a device owes on. -/
theorem mayWait_stage (c : Dev nD) (q : DmaSem sig) (hq : lev (role (.dma q)) = 0) (O : CellTallies nD τ sig Unit) (hO : O = owed₀ c ∨ O = 0) :
    (levAts L lv : sProp 𝕄) ⊢ MayWait (c : Thread nD τ) (.dma q) () O := by
  refine mayWait c _ O fun g u h => ?_
  rw [hq]
  rcases hO with rfl | rfl
  · unfold owed₀ at h
    rw [Pi.add_apply, Finsupp.add_apply] at h
    rcases Nat.eq_zero_or_pos (owedBar c 1 g u) with h0 | h0
    · rw [h0, Nat.zero_add] at h
      exact ⟨(owedRcv_pos h).1, by rw [(owedRcv_pos h).2]; decide⟩
    · exact ⟨(owedBar_pos h0).1, by rw [(owedBar_pos h0).2]; decide⟩
  · exact absurd h (Nat.lt_irrefl 0)

/-- Every wait of the pipeline's own is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

set_option maxRecDepth 8000 in
/-- Every weakly fair run of the eight devices from any memory with zero counters ends, each window's array as the
    pipeline's record says and every counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was, -/
theorem finalA_x (c : Dev nD) : finalA m ρ c (0 : Fin 2) = m ((c : Thread nD τ).loc main_arg0) :=
  (dats (F := F) m ρ 0 c).arrAt_in (0 : Fin 2) rfl _

/-- and the result is the maximum of all devices' maxima. -/
theorem finalA_out (c : Dev nD) : finalA m ρ c (1 : Fin 2) = outAt m ρ :=
  (dats (F := F) m ρ 0 c).arrAt_eq_of_cover 1 (outAt m ρ)
    (fun t _ => funext fun y => by
      obtain rfl := fin_N0 t
      show outAt m ρ y = outAt m ρ ((win0_1.rect t0_0).emb y)
      exact congrArg (outAt m ρ) (funext fun a => Fin.ext (Pipeline.Window.rect_emb_val_of_index_zero win0_1 t0_0 a rfl y).symm))
    (fun i => ⟨t0_0, flush0_1 t0_0, by
      show i ∈ ((View.whole main_v1).slice (win0_1.rect t0_0)).set
      rw [View.set_slice_whole, Rect.mem_set_unit]
      intro a
      have h : (i a : ℕ) < S1x512.size a := (i a).isLt
      show 0 * S1x512.size a ≤ (i a : ℕ) ∧ (i a : ℕ) < 0 * S1x512.size a + S1x512.size a
      omega⟩)

/-- The block a device starts from is its argument. -/
theorem xAt_eq (c : Dev nD) : xAt m ρ c = m ((c : Thread nD τ).loc main_arg0) := by
  funext y
  show m ((c : Thread nD τ).loc main_arg0) ((win0_0.rect (0 : Fin 1)).emb y) = m ((c : Thread nD τ).loc main_arg0) y
  exact congrArg (m ((c : Thread nD τ).loc main_arg0)) (funext fun a => Fin.ext (Pipeline.Window.rect_emb_val_of_index_zero win0_0 (0 : Fin 1) a rfl y))

/-- Every weakly fair run ends, the argument as it was, the result the maximum of all devices' maxima on every device,
    every counter at zero. -/
theorem run_main : θ_run defs (onTc (τ := τ) (main (F := F))) ⟨m, fun _ => 0, ρ⟩
    (fun r => (∀ c : Dev nD, r.2.mem ((c : Thread nD τ).loc main_v1) = outAt m ρ
      ∧ r.2.mem ((c : Thread nD τ).loc main_arg0) = m ((c : Thread nD τ).loc main_arg0)) ∧ r.2.sem = fun _ => 0) :=
  (θ_run defs _ _).mono (fun _ h => ⟨fun c => ⟨(h.1 c 1).trans (finalA_out m ρ c), (h.1 c 0).trans (finalA_x m ρ c)⟩, h.2⟩) (run_arrays m ρ)

end Cert.KernelIdeal.Gather

end
-- ==== Proof.Value.lean ====
/-
  The value the two programs agree on, in exact arithmetic with infinities. Over such values a maximum
  started from some value is at most `z` exactly if that starting value and every element are; so the
  maximum over eight devices of the maximum over each device's 1024 rows and the maximum over all 8192
  rows have the same upper bounds, hence are equal.
-/
module

public import proofs.«01_k».proof.Proof.KernelIdealRun
public import proofs.«01_k».proof.Proof.Gen.ReferenceIdeal.Run
public import Idealize.ShloMosaic.Lib.KernelVsHost
public import Idealize.ShloMosaic.Lib.Layout
public import Idealize.ShloMosaic.PureOps.Ideal.Laws
public import Idealize.ShloMosaic.Lib.Pipeline.Value

@[expose] public section

noncomputable section

namespace Cert.MaxValue

open Cert.KernelIdeal Cert.KernelIdeal.Gen Cert.KernelIdeal.Gather
open Idealize.ShloMosaic Idealize.ShloMosaic.TcCoe

/-- The value every maximum here starts from: what the constant of the programs denotes. -/
abbrev lowest : EReal := (FloatOps.ofBits (F := Ideal) .bf16 0xFF80#16 : Ideal .bf16)

/-- `a` is at most `z`, as extended reals. -/
abbrev Below (a z : EReal) : Prop := a ≤ z

/-- A maximum along one axis is at most `z` exactly if the starting value and every element along that axis are. -/
theorem reduced_le {s t : Shape} {a : Fin s.rank} (x : FVec Ideal s .bf16) (h : s.Reduces [a] t)
    (hφ : FKind.Formats .bf16) (hacc : (0xFF80#16 : BitVec 16) = FKind.maximumf.neutral .bf16 hφ) (j : t.Idx) (z : EReal) :
    Below (multiReduction .maximumf [a] t x 0xFF80#16 h hφ hacc j) z
      ↔ lowest ≤ z ∧ ∀ k : Fin (s.size a), Below (x (h.lift j k)) z := by
  unfold Below
  rw [Ideal.multiReduction_maximumf_single, Finset.fold_max_le]
  simp only [Finset.mem_univ, true_imp_iff, Function.comp_apply]

/-- Column `l` of a row `r` in a matrix of 512 columns. -/
abbrev at2 {n : Nat} (r : Fin n) (l : Fin 512) : (⟨2, ![n, 512]⟩ : Shape).Idx := Shape.pair r l

/-- A maximum over the rows of a matrix, at column `l`, bounded by the elements of that column. -/
theorem rows_le {n : Nat} (x : FVec Ideal ⟨2, ![n, 512]⟩ .bf16) (h : Shape.Reduces ⟨2, ![n, 512]⟩ [0] ⟨1, ![512]⟩)
    (hφ : FKind.Formats .bf16) (hacc : (0xFF80#16 : BitVec 16) = FKind.maximumf.neutral .bf16 hφ)
    (j : (⟨1, ![512]⟩ : Shape).Idx) (z : EReal) :
    Below (multiReduction .maximumf [0] ⟨1, ![512]⟩ x 0xFF80#16 h hφ hacc j) z
      ↔ lowest ≤ z ∧ ∀ r : Fin n, Below (x (at2 r (j 0))) z := by
  rw [reduced_le]
  have e : ∀ r : Fin n, h.lift j r = at2 r (j 0) := fun r => by
    funext b; fin_cases b <;> rfl
  exact and_congr_right fun _ => forall_congr' fun r => by rw [e r]

variable (m : (ℓ : Loc nD τ sig) → Buf (Elt Ideal) ℓ) (ρ : Dev nD → PrngReg)

/-- Device `c`'s own maximum is bounded exactly by the bounds of its 1024 rows. -/
theorem acc_le (c : Dev nD) (i : S1x512.Idx) (z : EReal) :
    Below (accAt m ρ c i) z ↔ lowest ≤ z ∧ ∀ r : Fin 1024, Below (xAt m ρ c (at2 r (i 1))) z := by
  have e : accAt m ρ c i = multiReduction (F := Ideal) .maximumf [0] S512 (xAt m ρ c) 0xFF80#16 reduces_S1024x512_S512 (.inr rfl) rfl
      (fun a => i a.succ) := by
    unfold accAt k0_pay1
    rw [shapeCast_self]
    exact shapeCast_addUnit_apply ![512] _ _ i
  rw [e]
  exact rows_le _ _ _ _ _ z

/-- The kernel's result is bounded exactly by the bounds of all rows of all devices. -/
theorem out_le (i : S1x512.Idx) (z : EReal) :
    Below (outAt m ρ i) z ↔ lowest ≤ z ∧ ∀ c : Dev nD, ∀ r : Fin 1024, Below (xAt m ρ c (at2 r (i 1))) z := by
  have e : ∀ c : Dev nD, gathered m ρ (reduces_S8x1x512_S1x512.lift i c) = accAt m ρ c i := fun c => by
    unfold gathered
    refine congrArg (accAt m ρ c) (funext fun b => ?_)
    fin_cases b <;> rfl
  refine (reduced_le (gathered m ρ) reduces_S8x1x512_S1x512 (.inr rfl) rfl i z).trans ?_
  constructor
  · exact fun ⟨h0, h⟩ => ⟨h0, fun c => ((acc_le m ρ c i z).mp (e c ▸ h c)).2⟩
  · exact fun ⟨h0, h⟩ => ⟨h0, fun c => (congrArg (Below · z) (e c)).mpr ((acc_le m ρ c i z).mpr ⟨h0, h c⟩)⟩

/-- The reference's result as a function of the whole matrix. -/
def refOut (x : FVec Ideal ⟨2, ![8192, 512]⟩ .bf16) : FVec Ideal ⟨2, ![1, 512]⟩ .bf16 :=
  broadcastInDim Cert.ReferenceIdeal.S1x512 ![1] Cert.ReferenceIdeal.Gen.bcast_S512_S1x512_1
    (Host.reduce FloatOps.maximumf x (constant Cert.ReferenceIdeal.S_ .bf16 0xFF80#16)
      Cert.ReferenceIdeal.Gen.reducesTo_S8192x512_S512_d0 Cert.ReferenceIdeal.Gen.h_S_)

/-- The reference's result is bounded exactly by the bounds of all 8192 rows. -/
theorem ref_le (x : FVec Ideal ⟨2, ![8192, 512]⟩ .bf16) (i : S1x512.Idx) (z : EReal) :
    Below (refOut x i) z ↔ lowest ≤ z ∧ ∀ r : Fin 8192, Below (x (at2 r (i 1))) z := by
  have hr : Shape.Reduces ⟨2, ![8192, 512]⟩ [0] ⟨1, ![512]⟩ := by decide
  unfold refOut
  rw [hostReduce_maximumf_eq_multiReduction (F := Ideal) x 0xFF80#16 _ _ hr (.inr rfl) rfl,
    broadcastInDim_apply (k := fun a : Fin 1 => i a.succ)]
  · exact rows_le _ _ _ _ _ z
  · intro a; fin_cases a; rfl

/-- If every device starts from its block of the rows of `x`, the kernel's result is the reference's of `x`. -/
theorem out_eq (x : FVec Ideal ⟨2, ![8192, 512]⟩ .bf16)
    (hx : ∀ c : Dev nD, xAt m ρ c = Layout.block ⟨2, ![1024, 512]⟩ ⟨2, ![8192, 512]⟩ 0 8 c x) :
    outAt m ρ = refOut x := by
  funext i
  refine eq_of_forall_ge_iff (α := EReal) fun z => (out_le m ρ i z).trans (Iff.trans ?_ (ref_le x i z).symm)
  refine and_congr_right fun _ => ⟨fun h r => ?_, fun h c r => ?_⟩
  · have hr := h ⟨r.val / 1024, by have := r.isLt; show _ < 8; omega⟩ ⟨r.val % 1024, Nat.mod_lt _ (by decide)⟩
    rw [hx] at hr
    refine le_of_eq_of_le (congrArg x (funext fun b => Fin.ext ?_)) hr
    fin_cases b
    · exact (Nat.div_add_mod' r.val 1024).symm
    · rfl
  · rw [hx]
    exact le_of_eq_of_le (congrArg x (funext fun b => Fin.ext (by fin_cases b <;> rfl)))
      (h ⟨c.val * 1024 + r.val, by have := c.isLt; have := r.isLt; have : c.val < 8 := c.isLt; omega⟩)

end Cert.MaxValue

end
-- ==== Proof.lean ====
/-
The five claims: the kernel on machine words, the kernel in exact arithmetic and the reference each end without a fault,
the argument unchanged and every counter at zero; the exact kernel is the printed one; and its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem

/-- The kernel as it runs on the machine's words terminates, leaves its argument as it was and every counter at zero. -/
theorem frame_kernel : Cert.quiescent_Kernel (hKernel := Cert.Kernel.Gen.facts) := fun m g _ =>
  (θ_run Cert.Kernel.defs _ _).mono (fun _ h => ⟨fun c => (h.1 c).2, h.2⟩)
    (Cert.Kernel.Gather.run_main (F := Bits) m g)

/-- So does the kernel read in exact arithmetic. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩)
    (Cert.KernelIdeal.Gather.run_main (F := Ideal) m g)

/-- So does the reference, which has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Started from its blocks of the reference's matrix, every device ends with the reference's result. -/
theorem agrees : Cert.algebraic_KernelIdeal_ReferenceIdeal (hKernelIdeal := Cert.KernelIdeal.Gen.facts)
    (hReferenceIdeal := Cert.ReferenceIdeal.Gen.facts) := fun m g m' g' _ hx =>
  ⟨MaxValue.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (MaxValue.out_eq m g _ fun c' => (Cert.KernelIdeal.Gather.xAt_eq m g c').trans (hx c')), (h.1 c).2⟩)
      (Cert.KernelIdeal.Gather.run_main (F := Ideal) m g),
    (θ_run Cert.ReferenceIdeal.defs _ _).mono (fun _ h => ⟨(h 0).1, (h 0).2⟩)
      (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, agrees⟩

end Cert.Proof

end
